-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S8192x13312 : Shape := ⟨2, ![8192, 13312]⟩
abbrev S8192x2048 : Shape := ⟨2, ![8192, 2048]⟩
abbrev S8192x4096 : Shape := ⟨2, ![8192, 4096]⟩
abbrev S8192x128 : Shape := ⟨2, ![8192, 128]⟩
abbrev S_ : Shape := ⟨0, ![]⟩

class Facts : Prop where
  slices_S8192x13312_S8192x2048_0_0 : S8192x13312.Slices ![0, 0] S8192x2048
  bitsLt_bf16_f32 : FTy.bits .bf16 < FTy.bits .f32
  bcast_S_S8192x2048 : S_.BroadcastsInDim S8192x2048 (![] : Fin 0 → Fin S8192x2048.rank)
  bcast_S_S8192x4096 : S_.BroadcastsInDim S8192x4096 (![] : Fin 0 → Fin S8192x4096.rank)
  bcast_S_S8192x128 : S_.BroadcastsInDim S8192x128 (![] : Fin 0 → Fin S8192x128.rank)

variable [Facts]

def fn {F : FTy → Type} [FloatOps F] (main_arg0 : FVec F S8192x13312 .f32) (main_arg1 : FVec F S8192x2048 .bf16) (main_arg2 : FVec F S8192x4096 .bf16) (main_arg3 : FVec F S8192x128 .bf16) (main_arg4 : FVec F S8192x2048 .f32) : IVec S8192x2048 1 × IVec S8192x2048 1 × IVec S8192x4096 1 × IVec S8192x128 1 × IVec S8192x2048 1 :=
  let main_v0 : FVec F S8192x2048 .f32 := (extractStridedSlice S8192x2048 ![0, 0] · slices_S8192x13312_S8192x2048_0_0) main_arg0
  let main_v1 : FVec F S8192x2048 .f32 := (extf .f32 · bitsLt_bf16_f32) main_arg1
  let main_v2 : FVec F S8192x4096 .f32 := (extf .f32 · bitsLt_bf16_f32) main_arg2
  let main_v3 : FVec F S8192x128 .f32 := (extf .f32 · bitsLt_bf16_f32) main_arg3
  let main_v4 : FVec F S8192x2048 .f32 := Host.absf main_v0
  let main_cst : FVec F S_ .f32 := constant S_ .f32 0x7F800000#32
  let main_v5 : FVec F S8192x2048 .f32 := broadcastInDim S8192x2048 ![] bcast_S_S8192x2048 main_cst
  let main_v6 : IVec S8192x2048 1 := cmpf .olt main_v4 main_v5
  let main_v7 : FVec F S8192x2048 .f32 := Host.absf main_v1
  let main_cst_0 : FVec F S_ .f32 := constant S_ .f32 0x7F800000#32
  let main_v8 : FVec F S8192x2048 .f32 := broadcastInDim S8192x2048 ![] bcast_S_S8192x2048 main_cst_0
  let main_v9 : IVec S8192x2048 1 := cmpf .olt main_v7 main_v8
  let main_v10 : FVec F S8192x4096 .f32 := Host.absf main_v2
  let main_cst_1 : FVec F S_ .f32 := constant S_ .f32 0x7F800000#32
  let main_v11 : FVec F S8192x4096 .f32 := broadcastInDim S8192x4096 ![] bcast_S_S8192x4096 main_cst_1
  let main_v12 : IVec S8192x4096 1 := cmpf .olt main_v10 main_v11
  let main_v13 : FVec F S8192x128 .f32 := Host.absf main_v3
  let main_cst_2 : FVec F S_ .f32 := constant S_ .f32 0x7F800000#32
  let main_v14 : FVec F S8192x128 .f32 := broadcastInDim S8192x128 ![] bcast_S_S8192x128 main_cst_2
  let main_v15 : IVec S8192x128 1 := cmpf .olt main_v13 main_v14
  let main_v16 : FVec F S8192x2048 .f32 := Host.absf main_arg4
  let main_cst_3 : FVec F S_ .f32 := constant S_ .f32 0x7F800000#32
  let main_v17 : FVec F S8192x2048 .f32 := broadcastInDim S8192x2048 ![] bcast_S_S8192x2048 main_cst_3
  let main_v18 : IVec S8192x2048 1 := cmpf .olt main_v16 main_v17
  (main_v6, main_v9, main_v12, main_v15, main_v18)
-- ==== Kernel.lean ====
abbrev S8192x13312 : Shape := ⟨2, ![8192, 13312]⟩
abbrev S8192x2048 : Shape := ⟨2, ![8192, 2048]⟩
abbrev S8192x4096 : Shape := ⟨2, ![8192, 4096]⟩
abbrev S8192x128 : Shape := ⟨2, ![8192, 128]⟩
abbrev S1x8192x128 : Shape := ⟨3, ![1, 8192, 128]⟩
abbrev S16x8192x128 : Shape := ⟨3, ![16, 8192, 128]⟩
abbrev S8192x16x128 : Shape := ⟨3, ![8192, 16, 128]⟩
abbrev S8192x16x256 : Shape := ⟨3, ![8192, 16, 256]⟩
abbrev S16x8192x8192 : Shape := ⟨3, ![16, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S1024x128 : Shape := ⟨2, ![1024, 128]⟩
abbrev S1024x256 : Shape := ⟨2, ![1024, 256]⟩
abbrev S1x1024x1 : Shape := ⟨3, ![1, 1024, 1]⟩
abbrev S1x1024x128 : Shape := ⟨3, ![1, 1024, 128]⟩
abbrev S256x256 : Shape := ⟨2, ![256, 256]⟩
abbrev S1x256x1 : Shape := ⟨3, ![1, 256, 1]⟩
abbrev S256x1 : Shape := ⟨2, ![256, 1]⟩
abbrev S256x128 : Shape := ⟨2, ![256, 128]⟩
abbrev S256 : Shape := ⟨1, ![256]⟩
abbrev S512x256 : Shape := ⟨2, ![512, 256]⟩
abbrev S256x512 : Shape := ⟨2, ![256, 512]⟩
abbrev S512x128 : Shape := ⟨2, ![512, 128]⟩
abbrev S768x256 : Shape := ⟨2, ![768, 256]⟩
abbrev S256x768 : Shape := ⟨2, ![256, 768]⟩
abbrev S768x128 : Shape := ⟨2, ![768, 128]⟩
abbrev S256x1024 : Shape := ⟨2, ![256, 1024]⟩

abbrev nBuf : Space → Nat
  | .hbm => 64
  | .vmem => 20
  | .smem => 0
  | _ => 0

abbrev bufTy : (tb : Table) → Fin (tcTables nBuf tb) → BufTy
  | .hbm, ⟨0, _⟩ => ⟨S8192x13312, .f32⟩
  | .hbm, ⟨1, _⟩ => ⟨S8192x2048, .bf16⟩
  | .hbm, ⟨2, _⟩ => ⟨S8192x4096, .bf16⟩
  | .hbm, ⟨3, _⟩ => ⟨S8192x128, .bf16⟩
  | .hbm, ⟨4, _⟩ => ⟨S8192x2048, .f32⟩
  | .hbm, ⟨5, _⟩ => ⟨S8192x128, .f32⟩
  | .hbm, ⟨6, _⟩ => ⟨S1x8192x128, .f32⟩
  | .hbm, ⟨7, _⟩ => ⟨S16x8192x128, .f32⟩
  | .hbm, ⟨8, _⟩ => ⟨S8192x2048, .f32⟩
  | .hbm, ⟨9, _⟩ => ⟨S8192x16x128, .f32⟩
  | .hbm, ⟨10, _⟩ => ⟨S8192x2048, .f32⟩
  | .hbm, ⟨11, _⟩ => ⟨S8192x16x128, .f32⟩
  | .hbm, ⟨12, _⟩ => ⟨S8192x4096, .f32⟩
  | .hbm, ⟨13, _⟩ => ⟨S8192x16x256, .f32⟩
  | .hbm, ⟨14, _⟩ => ⟨S8192x16x128, .f32⟩
  | .hbm, ⟨15, _⟩ => ⟨S8192x16x128, .f32⟩
  | .hbm, ⟨16, _⟩ => ⟨S8192x16x256, .f32⟩
  | .hbm, ⟨17, _⟩ => ⟨S8192x16x128, .f32⟩
  | .hbm, ⟨18, _⟩ => ⟨S8192x16x256, .f32⟩
  | .hbm, ⟨19, _⟩ => ⟨S16x8192x8192, .f32⟩
  | .hbm, ⟨20, _⟩ => ⟨S_, .f32⟩
  | .hbm, ⟨21, _⟩ => ⟨S16x8192x8192, .f32⟩
  | .hbm, ⟨22, _⟩ => ⟨S16x8192x8192, .f32⟩
  | .hbm, ⟨23, _⟩ => ⟨S8192, .i32⟩
  | .hbm, ⟨24, _⟩ => ⟨S8192x1, .i32⟩
  | .hbm, ⟨25, _⟩ => ⟨S1x8192, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .f32⟩
  | .hbm, ⟨30, _⟩ => ⟨S_, .f32⟩
  | .hbm, ⟨31, _⟩ => ⟨S16x8192x8192, .i1⟩
  | .hbm, ⟨32, _⟩ => ⟨S16x8192x8192, .f32⟩
  | .hbm, ⟨33, _⟩ => ⟨S16x8192x8192, .f32⟩
  | .hbm, ⟨34, _⟩ => ⟨S_, .f32⟩
  | .hbm, ⟨35, _⟩ => ⟨S16x8192, .f32⟩
  | .hbm, ⟨36, _⟩ => ⟨S_, .f32⟩
  | .hbm, ⟨37, _⟩ => ⟨S16x8192, .f32⟩
  | .hbm, ⟨38, _⟩ => ⟨S16x8192, .f32⟩
  | .hbm, ⟨39, _⟩ => ⟨S16x8192x1, .f32⟩
  | .hbm, ⟨40, _⟩ => ⟨S16x8192x8192, .f32⟩
  | .hbm, ⟨41, _⟩ => ⟨S16x8192x8192, .f32⟩
  | .hbm, ⟨42, _⟩ => ⟨S16x8192x8192, .f32⟩
  | .hbm, ⟨43, _⟩ => ⟨S_, .f32⟩
  | .hbm, ⟨44, _⟩ => ⟨S16x8192, .f32⟩
  | .hbm, ⟨45, _⟩ => ⟨S16x8192x1, .f32⟩
  | .hbm, ⟨46, _⟩ => ⟨S16x8192x8192, .f32⟩
  | .hbm, ⟨47, _⟩ => ⟨S16x8192x8192, .f32⟩
  | .hbm, ⟨48, _⟩ => ⟨S16x128x8192, .f32⟩
  | .hbm, ⟨49, _⟩ => ⟨S8192x16x128, .f32⟩
  | .hbm, ⟨50, _⟩ => ⟨S8192x2048, .f32⟩
  | .hbm, ⟨51, _⟩ => ⟨S_, .f32⟩
  | .hbm, ⟨52, _⟩ => ⟨S16x8192, .f32⟩
  | .hbm, ⟨53, _⟩ => ⟨S16x8192x1, .f32⟩
  | .hbm, ⟨54, _⟩ => ⟨S16x8192x8192, .f32⟩
  | .hbm, ⟨55, _⟩ => ⟨S16x8192x8192, .f32⟩
  | .hbm, ⟨56, _⟩ => ⟨S16x8192x8192, .f32⟩
  | .hbm, ⟨57, _⟩ => ⟨S_, .f32⟩
  | .hbm, ⟨58, _⟩ => ⟨S16x8192, .f32⟩
  | .hbm, ⟨59, _⟩ => ⟨S16x8192x1, .f32⟩
  | .hbm, ⟨60, _⟩ => ⟨S16x8192x1, .f32⟩
  | .hbm, ⟨61, _⟩ => ⟨S16x8192x1, .f32⟩
  | .hbm, ⟨62, _⟩ => ⟨S8192x4096, .bf16⟩
  | .hbm, ⟨63, _⟩ => ⟨S16x8192x128, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x128, .bf16⟩
  | .local _ .vmem, ⟨4, _⟩ => ⟨S1024x256, .bf16⟩
  | .local _ .vmem, ⟨5, _⟩ => ⟨S1024x256, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x1024x1, .f32⟩
  | .local _ .vmem, ⟨13, _⟩ => ⟨S1x1024x1, .f32⟩
  | .local _ .vmem, ⟨14, _⟩ => ⟨S1024x256, .bf16⟩
  | .local _ .vmem, ⟨15, _⟩ => ⟨S1024x256, .bf16⟩
  | .local _ .vmem, ⟨16, _⟩ => ⟨S1x1024x128, .f32⟩
  | .local _ .vmem, ⟨17, _⟩ => ⟨S1x1024x128, .f32⟩
  | .local _ .vmem, ⟨18, _⟩ => ⟨S1024x256, .f32⟩
  | .local _ .vmem, ⟨19, _⟩ => ⟨S1024x128, .f32⟩
  | _, _ => ⟨S8192x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47_0 : Ref sig .tc := ⟨.hbm, 62, rfl⟩
abbrev main_v47_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![16, 4, 9], ![false, false, false]⟩

def k0_cond4 (i : grid0.Coords) : BitVec 1 :=
  let arg2 : BitVec 32 := BitVec.ofNat 32 (i 2).val
  let c8_i32 : BitVec 32 := 8#32
  let arg1 : BitVec 32 := BitVec.ofNat 32 (i 1).val
  let v0 : BitVec 32 := Scalar.subi c8_i32 arg1
  let v1 : BitVec 1 := Scalar.cmpi .slt arg2 v0
  let v2 : BitVec 32 := Scalar.addi arg1 arg2
  let c1_i32 : BitVec 32 := 1#32
  let v3 : BitVec 32 := Scalar.subi arg2 c1_i32
  let v4 : BitVec 32 := Scalar.select v1 v2 v3
  let c7_i32_2 : BitVec 32 := 7#32
  let v16 : BitVec 1 := Scalar.cmpi .eq v4 c7_i32_2
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let v2 : BitVec 32 := Scalar.addi arg1 arg2
  let c1_i32 : BitVec 32 := 1#32
  let v3 : BitVec 32 := Scalar.subi arg2 c1_i32
  let v4 : BitVec 32 := Scalar.select v1 v2 v3
  let c7_i32 : BitVec 32 := 7#32
  let v5 : BitVec 32 := Scalar.subi c7_i32 arg1
  let v6 : BitVec 32 := Scalar.select v1 arg1 v5
  let c0_i32 : BitVec 32 := 0#32
  ![v4.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let v2 : BitVec 32 := Scalar.addi arg1 arg2
  let c1_i32 : BitVec 32 := 1#32
  let v3 : BitVec 32 := Scalar.subi arg2 c1_i32
  let v4 : BitVec 32 := Scalar.select v1 v2 v3
  let c7_i32 : BitVec 32 := 7#32
  let v5 : BitVec 32 := Scalar.subi c7_i32 arg1
  let v6 : BitVec 32 := Scalar.select v1 arg1 v5
  let c0_i32 : BitVec 32 := 0#32
  ![v4.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let v2 : BitVec 32 := Scalar.addi arg1 arg2
  let c1_i32 : BitVec 32 := 1#32
  let v3 : BitVec 32 := Scalar.subi arg2 c1_i32
  let v4 : BitVec 32 := Scalar.select v1 v2 v3
  let c7_i32 : BitVec 32 := 7#32
  let v5 : BitVec 32 := Scalar.subi c7_i32 arg1
  let v6 : BitVec 32 := Scalar.select v1 arg1 v5
  let c0_i32 : BitVec 32 := 0#32
  ![v6.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let v2 : BitVec 32 := Scalar.addi arg1 arg2
  let c1_i32 : BitVec 32 := 1#32
  let v3 : BitVec 32 := Scalar.subi arg2 c1_i32
  let v4 : BitVec 32 := Scalar.select v1 v2 v3
  let c7_i32 : BitVec 32 := 7#32
  let v5 : BitVec 32 := Scalar.subi c7_i32 arg1
  let v6 : BitVec 32 := Scalar.select v1 arg1 v5
  let c0_i32 : BitVec 32 := 0#32
  let c0_i32_0 : BitVec 32 := 0#32
  ![v6.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let v2 : BitVec 32 := Scalar.addi arg1 arg2
  let c1_i32 : BitVec 32 := 1#32
  let v3 : BitVec 32 := Scalar.subi arg2 c1_i32
  let v4 : BitVec 32 := Scalar.select v1 v2 v3
  let c7_i32 : BitVec 32 := 7#32
  let v5 : BitVec 32 := Scalar.subi c7_i32 arg1
  let v6 : BitVec 32 := Scalar.select v1 arg1 v5
  let c0_i32 : BitVec 32 := 0#32
  ![v4.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let v2 : BitVec 32 := Scalar.addi arg1 arg2
  let c1_i32 : BitVec 32 := 1#32
  let v3 : BitVec 32 := Scalar.subi arg2 c1_i32
  let v4 : BitVec 32 := Scalar.select v1 v2 v3
  let c7_i32 : BitVec 32 := 7#32
  let v5 : BitVec 32 := Scalar.subi c7_i32 arg1
  let v6 : BitVec 32 := Scalar.select v1 arg1 v5
  let c0_i32 : BitVec 32 := 0#32
  ![v4.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let v2 : BitVec 32 := Scalar.addi arg1 arg2
  let c1_i32 : BitVec 32 := 1#32
  let v3 : BitVec 32 := Scalar.subi arg2 c1_i32
  let v4 : BitVec 32 := Scalar.select v1 v2 v3
  let c7_i32 : BitVec 32 := 7#32
  let v5 : BitVec 32 := Scalar.subi c7_i32 arg1
  let v6 : BitVec 32 := Scalar.select v1 arg1 v5
  let c0_i32 : BitVec 32 := 0#32
  let c0_i32_0 : BitVec 32 := 0#32
  ![arg0.toNat, v4.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let v2 : BitVec 32 := Scalar.addi arg1 arg2
  let c1_i32 : BitVec 32 := 1#32
  let v3 : BitVec 32 := Scalar.subi arg2 c1_i32
  let v4 : BitVec 32 := Scalar.select v1 v2 v3
  let c7_i32 : BitVec 32 := 7#32
  let v5 : BitVec 32 := Scalar.subi c7_i32 arg1
  let v6 : BitVec 32 := Scalar.select v1 arg1 v5
  let c0_i32 : BitVec 32 := 0#32
  ![v6.toNat, arg0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let v2 : BitVec 32 := Scalar.addi arg1 arg2
  let c1_i32 : BitVec 32 := 1#32
  let v3 : BitVec 32 := Scalar.subi arg2 c1_i32
  let v4 : BitVec 32 := Scalar.select v1 v2 v3
  let c7_i32 : BitVec 32 := 7#32
  let v5 : BitVec 32 := Scalar.subi c7_i32 arg1
  let v6 : BitVec 32 := Scalar.select v1 arg1 v5
  let c0_i32 : BitVec 32 := 0#32
  let c0_i32_0 : BitVec 32 := 0#32
  ![arg0.toNat, v6.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8192x13312 : Shape := ⟨2, ![8192, 13312]⟩
abbrev S8192x2048 : Shape := ⟨2, ![8192, 2048]⟩
abbrev S8192x4096 : Shape := ⟨2, ![8192, 4096]⟩
abbrev S8192x128 : Shape := ⟨2, ![8192, 128]⟩
abbrev S1x8192x128 : Shape := ⟨3, ![1, 8192, 128]⟩
abbrev S16x8192x128 : Shape := ⟨3, ![16, 8192, 128]⟩
abbrev S8192x16x128 : Shape := ⟨3, ![8192, 16, 128]⟩
abbrev S8192x16x256 : Shape := ⟨3, ![8192, 16, 256]⟩
abbrev S16x8192x8192 : Shape := ⟨3, ![16, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S16x8192x256 : Shape := ⟨3, ![16, 8192, 256]⟩

abbrev nBuf : Space → Nat
  | .hbm => 114
  | .vmem => 0
  | .smem => 0
  | _ => 0

abbrev bufTy : (tb : Table) → Fin (tcTables nBuf tb) → BufTy
  | .hbm, ⟨0, _⟩ => ⟨S8192x13312, .f32⟩
  | .hbm, ⟨1, _⟩ => ⟨S8192x2048, .bf16⟩
  | .hbm, ⟨2, _⟩ => ⟨S8192x4096, .bf16⟩
  | .hbm, ⟨3, _⟩ => ⟨S8192x128, .bf16⟩
  | .hbm, ⟨4, _⟩ => ⟨S8192x2048, .f32⟩
  | .hbm, ⟨5, _⟩ => ⟨S8192x128, .f32⟩
  | .hbm, ⟨6, _⟩ => ⟨S1x8192x128, .f32⟩
  | .hbm, ⟨7, _⟩ => ⟨S16x8192x128, .f32⟩
  | .hbm, ⟨8, _⟩ => ⟨S8192x2048, .f32⟩
  | .hbm, ⟨9, _⟩ => ⟨S8192x16x128, .f32⟩
  | .hbm, ⟨10, _⟩ => ⟨S8192x2048, .f32⟩
  | .hbm, ⟨11, _⟩ => ⟨S8192x16x128, .f32⟩
  | .hbm, ⟨12, _⟩ => ⟨S8192x4096, .f32⟩
  | .hbm, ⟨13, _⟩ => ⟨S8192x16x256, .f32⟩
  | .hbm, ⟨14, _⟩ => ⟨S8192x16x128, .f32⟩
  | .hbm, ⟨15, _⟩ => ⟨S8192x16x128, .f32⟩
  | .hbm, ⟨16, _⟩ => ⟨S8192x16x256, .f32⟩
  | .hbm, ⟨17, _⟩ => ⟨S8192x16x128, .f32⟩
  | .hbm, ⟨18, _⟩ => ⟨S8192x16x256, .f32⟩
  | .hbm, ⟨19, _⟩ => ⟨S16x8192x8192, .f32⟩
  | .hbm, ⟨20, _⟩ => ⟨S_, .f32⟩
  | .hbm, ⟨21, _⟩ => ⟨S16x8192x8192, .f32⟩
  | .hbm, ⟨22, _⟩ => ⟨S16x8192x8192, .f32⟩
  | .hbm, ⟨23, _⟩ => ⟨S8192, .i32⟩
  | .hbm, ⟨24, _⟩ => ⟨S8192x1, .i32⟩
  | .hbm, ⟨25, _⟩ => ⟨S1x8192, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .f32⟩
  | .hbm, ⟨30, _⟩ => ⟨S_, .f32⟩
  | .hbm, ⟨31, _⟩ => ⟨S16x8192x8192, .i1⟩
  | .hbm, ⟨32, _⟩ => ⟨S16x8192x8192, .f32⟩
  | .hbm, ⟨33, _⟩ => ⟨S16x8192x8192, .f32⟩
  | .hbm, ⟨34, _⟩ => ⟨S_, .f32⟩
  | .hbm, ⟨35, _⟩ => ⟨S16x8192x8192, .f32⟩
  | .hbm, ⟨36, _⟩ => ⟨S_, .f32⟩
  | .hbm, ⟨37, _⟩ => ⟨S16x8192, .f32⟩
  | .hbm, ⟨38, _⟩ => ⟨S16x8192x1, .f32⟩
  | .hbm, ⟨39, _⟩ => ⟨S16x8192x8192, .f32⟩
  | .hbm, ⟨40, _⟩ => ⟨S16x8192x8192, .i1⟩
  | .hbm, ⟨41, _⟩ => ⟨S16x8192x8192, .f32⟩
  | .hbm, ⟨42, _⟩ => ⟨S_, .f32⟩
  | .hbm, ⟨43, _⟩ => ⟨S16x8192, .f32⟩
  | .hbm, ⟨44, _⟩ => ⟨S_, .f32⟩
  | .hbm, ⟨45, _⟩ => ⟨S16x8192, .f32⟩
  | .hbm, ⟨46, _⟩ => ⟨S16x8192, .f32⟩
  | .hbm, ⟨47, _⟩ => ⟨S_, .f32⟩
  | .hbm, ⟨48, _⟩ => ⟨S16x8192, .f32⟩
  | .hbm, ⟨49, _⟩ => ⟨S16x8192, .i1⟩
  | .hbm, ⟨50, _⟩ => ⟨S_, .f32⟩
  | .hbm, ⟨51, _⟩ => ⟨S16x8192, .f32⟩
  | .hbm, ⟨52, _⟩ => ⟨S16x8192, .i1⟩
  | .hbm, ⟨53, _⟩ => ⟨S_, .f32⟩
  | .hbm, ⟨54, _⟩ => ⟨S16x8192, .f32⟩
  | .hbm, ⟨55, _⟩ => ⟨S_, .f32⟩
  | .hbm, ⟨56, _⟩ => ⟨S16x8192, .f32⟩
  | .hbm, ⟨57, _⟩ => ⟨S_, .f32⟩
  | .hbm, ⟨58, _⟩ => ⟨S16x8192, .f32⟩
  | .hbm, ⟨59, _⟩ => ⟨S16x8192, .f32⟩
  | .hbm, ⟨60, _⟩ => ⟨S16x8192, .f32⟩
  | .hbm, ⟨61, _⟩ => ⟨S16x8192x1, .f32⟩
  | .hbm, ⟨62, _⟩ => ⟨S16x8192x8192, .f32⟩
  | .hbm, ⟨63, _⟩ => ⟨S16x8192x8192, .f32⟩
  | .hbm, ⟨64, _⟩ => ⟨S16x8192x8192, .f32⟩
  | .hbm, ⟨65, _⟩ => ⟨S_, .f32⟩
  | .hbm, ⟨66, _⟩ => ⟨S16x8192, .f32⟩
  | .hbm, ⟨67, _⟩ => ⟨S16x8192x1, .f32⟩
  | .hbm, ⟨68, _⟩ => ⟨S16x8192x8192, .f32⟩
  | .hbm, ⟨69, _⟩ => ⟨S16x8192x8192, .f32⟩
  | .hbm, ⟨70, _⟩ => ⟨S16x8192x1, .f32⟩
  | .hbm, ⟨71, _⟩ => ⟨S_, .f32⟩
  | .hbm, ⟨72, _⟩ => ⟨S16x8192x1, .f32⟩
  | .hbm, ⟨73, _⟩ => ⟨S16x8192x1, .f32⟩
  | .hbm, ⟨74, _⟩ => ⟨S16x128x8192, .f32⟩
  | .hbm, ⟨75, _⟩ => ⟨S8192x16x128, .f32⟩
  | .hbm, ⟨76, _⟩ => ⟨S8192x2048, .f32⟩
  | .hbm, ⟨77, _⟩ => ⟨S8192x16x128, .f32⟩
  | .hbm, ⟨78, _⟩ => ⟨S16x128x8192, .f32⟩
  | .hbm, ⟨79, _⟩ => ⟨S16x8192x8192, .f32⟩
  | .hbm, ⟨80, _⟩ => ⟨S16x128x8192, .f32⟩
  | .hbm, ⟨81, _⟩ => ⟨S8192x16x128, .f32⟩
  | .hbm, ⟨82, _⟩ => ⟨S16x8192x8192, .f32⟩
  | .hbm, ⟨83, _⟩ => ⟨S16x8192x8192, .f32⟩
  | .hbm, ⟨84, _⟩ => ⟨S16x8192x8192, .f32⟩
  | .hbm, ⟨85, _⟩ => ⟨S_, .f32⟩
  | .hbm, ⟨86, _⟩ => ⟨S16x8192, .f32⟩
  | .hbm, ⟨87, _⟩ => ⟨S16x8192x1, .f32⟩
  | .hbm, ⟨88, _⟩ => ⟨S16x8192x1, .f32⟩
  | .hbm, ⟨89, _⟩ => ⟨S16x8192x8192, .f32⟩
  | .hbm, ⟨90, _⟩ => ⟨S16x8192x8192, .f32⟩
  | .hbm, ⟨91, _⟩ => ⟨S_, .f32⟩
  | .hbm, ⟨92, _⟩ => ⟨S16x8192, .f32⟩
  | .hbm, ⟨93, _⟩ => ⟨S16x8192x8192, .f32⟩
  | .hbm, ⟨94, _⟩ => ⟨S16x8192x8192, .f32⟩
  | .hbm, ⟨95, _⟩ => ⟨S16x8192x8192, .f32⟩
  | .hbm, ⟨96, _⟩ => ⟨S_, .f32⟩
  | .hbm, ⟨97, _⟩ => ⟨S16x8192x8192, .f32⟩
  | .hbm, ⟨98, _⟩ => ⟨S16x8192x8192, .f32⟩
  | .hbm, ⟨99, _⟩ => ⟨S_, .f32⟩
  | .hbm, ⟨100, _⟩ => ⟨S16x8192x8192, .f32⟩
  | .hbm, ⟨101, _⟩ => ⟨S16x8192x8192, .f32⟩
  | .hbm, ⟨102, _⟩ => ⟨S16x8192x256, .f32⟩
  | .hbm, ⟨103, _⟩ => ⟨S8192x16x256, .f32⟩
  | .hbm, ⟨104, _⟩ => ⟨S8192x16x128, .f32⟩
  | .hbm, ⟨105, _⟩ => ⟨S8192x16x128, .f32⟩
  | .hbm, ⟨106, _⟩ => ⟨S16x8192x128, .f32⟩
  | .hbm, ⟨107, _⟩ => ⟨S_, .f32⟩
  | .hbm, ⟨108, _⟩ => ⟨S8192x16x256, .f32⟩
  | .hbm, ⟨109, _⟩ => ⟨S_, .f32⟩
  | .hbm, ⟨110, _⟩ => ⟨S8192x16x256, .f32⟩
  | .hbm, ⟨111, _⟩ => ⟨S8192x16x256, .f32⟩
  | .hbm, ⟨112, _⟩ => ⟨S8192x4096, .f32⟩
  | .hbm, ⟨113, _⟩ => ⟨S8192x4096, .bf16⟩
  | _, _ => ⟨S8192x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_v23_1 : Ref sig .tc := ⟨.hbm, 31, rfl⟩
abbrev main_call0_v2 : Ref sig .tc := ⟨.hbm, 32, rfl⟩
abbrev main_v23_0 : Ref sig .tc := ⟨.hbm, 33, rfl⟩
abbrev main_call0_cst : Ref sig .tc := ⟨.hbm, 34, rfl⟩
abbrev main_v23_2 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_14 : Ref sig .tc := ⟨.hbm, 107, rfl⟩
abbrev main_v80 : Ref sig .tc := ⟨.hbm, 108, rfl⟩
abbrev main_cst_15 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩

abbrev nD : Nat := 1
abbrev τ : Topo := Topo.v7x

variable {F : FTy → Type} [FloatOps F]
-- ==== Kernel2.lean ====
abbrev S8192x13312 : Shape := ⟨2, ![8192, 13312]⟩
abbrev S2048x13312 : Shape := ⟨2, ![2048, 13312]⟩
abbrev S8192x2048 : Shape := ⟨2, ![8192, 2048]⟩
abbrev S1024x1664 : Shape := ⟨2, ![1024, 1664]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x13312, .bf16⟩
  | .hbm, ⟨1, _⟩ => ⟨S2048x13312, .bf16⟩
  | .hbm, ⟨2, _⟩ => ⟨S8192x2048, .f32⟩
  | .local _ .vmem, ⟨0, _⟩ => ⟨S1024x1664, .bf16⟩
  | .local _ .vmem, ⟨1, _⟩ => ⟨S1024x1664, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x13312 : Shape := ⟨2, ![8192, 13312]⟩
abbrev S2048x13312 : Shape := ⟨2, ![2048, 13312]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x13312, .bf16⟩
  | .hbm, ⟨1, _⟩ => ⟨S2048x13312, .bf16⟩
  | .hbm, ⟨2, _⟩ => ⟨S_, .f32⟩
  | .hbm, ⟨3, _⟩ => ⟨S8192x2048, .f32⟩
  | .hbm, ⟨4, _⟩ => ⟨S2048x13312, .f32⟩
  | .hbm, ⟨5, _⟩ => ⟨S8192x13312, .f32⟩
  | .hbm, ⟨6, _⟩ => ⟨S8192x13312, .f32⟩
  | .hbm, ⟨7, _⟩ => ⟨S8192x2048, .f32⟩
  | _, _ => ⟨S8192x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S8192x2048 : Shape := ⟨2, ![8192, 2048]⟩
abbrev S8192x11264 : Shape := ⟨2, ![8192, 11264]⟩
abbrev S4x2048x2816 : Shape := ⟨3, ![4, 2048, 2816]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S4x2048x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S_, .f32⟩
  | .hbm, ⟨3, _⟩ => ⟨S2048x11264, .f32⟩
  | .hbm, ⟨4, _⟩ => ⟨S8192x2048, .f32⟩
  | .hbm, ⟨5, _⟩ => ⟨S8192x11264, .f32⟩
  | .hbm, ⟨6, _⟩ => ⟨S8192x11264, .f32⟩
  | .hbm, ⟨7, _⟩ => ⟨S11264x2048, .f32⟩
  | .hbm, ⟨8, _⟩ => ⟨S2048x11264, .f32⟩
  | .hbm, ⟨9, _⟩ => ⟨S2048x4x2816, .f32⟩
  | .hbm, ⟨10, _⟩ => ⟨S4x2048x2816, .f32⟩
  | .hbm, ⟨11, _⟩ => ⟨S4x2048x2816, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S8192x2048 : Shape := ⟨2, ![8192, 2048]⟩
abbrev S2048x13312 : Shape := ⟨2, ![2048, 13312]⟩
abbrev S8192x13312 : Shape := ⟨2, ![8192, 13312]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x13312, .bf16⟩
  | .hbm, ⟨2, _⟩ => ⟨S8192x13312, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 13, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S2048x13312 : Shape := ⟨2, ![2048, 13312]⟩
abbrev S8192x13312 : Shape := ⟨2, ![8192, 13312]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x13312, .bf16⟩
  | .hbm, ⟨2, _⟩ => ⟨S8192x2048, .f32⟩
  | .hbm, ⟨3, _⟩ => ⟨S2048x13312, .f32⟩
  | .hbm, ⟨4, _⟩ => ⟨S8192x13312, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S8192x2048 : Shape := ⟨2, ![8192, 2048]⟩
abbrev S8192x13312 : Shape := ⟨2, ![8192, 13312]⟩
abbrev S2048x13312 : Shape := ⟨2, ![2048, 13312]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x13312, .bf16⟩
  | .hbm, ⟨2, _⟩ => ⟨S2048x13312, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 13, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S8192x13312 : Shape := ⟨2, ![8192, 13312]⟩
abbrev S_ : Shape := ⟨0, ![]⟩
abbrev S2048x13312 : Shape := ⟨2, ![2048, 13312]⟩
abbrev S13312x2048 : Shape := ⟨2, ![13312, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x13312, .bf16⟩
  | .hbm, ⟨2, _⟩ => ⟨S_, .f32⟩
  | .hbm, ⟨3, _⟩ => ⟨S2048x13312, .f32⟩
  | .hbm, ⟨4, _⟩ => ⟨S8192x2048, .f32⟩
  | .hbm, ⟨5, _⟩ => ⟨S8192x13312, .f32⟩
  | .hbm, ⟨6, _⟩ => ⟨S8192x13312, .f32⟩
  | .hbm, ⟨7, _⟩ => ⟨S13312x2048, .f32⟩
  | .hbm, ⟨8, _⟩ => ⟨S2048x13312, .f32⟩
  | .hbm, ⟨9, _⟩ => ⟨S2048x13312, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x2048 : Shape := ⟨2, ![8192, 2048]⟩
abbrev S2048x11264 : Shape := ⟨2, ![2048, 11264]⟩
abbrev S8192x11264 : Shape := ⟨2, ![8192, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S2048x11264 : Shape := ⟨2, ![2048, 11264]⟩
abbrev S8192x11264 : Shape := ⟨2, ![8192, 11264]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .f32⟩
  | .hbm, ⟨3, _⟩ => ⟨S2048x11264, .f32⟩
  | .hbm, ⟨4, _⟩ => ⟨S8192x11264, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S8192x11264 : Shape := ⟨2, ![8192, 11264]⟩
abbrev S2048x11264 : Shape := ⟨2, ![2048, 11264]⟩
abbrev S8192x2048 : Shape := ⟨2, ![8192, 2048]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x11264, .bf16⟩
  | .hbm, ⟨1, _⟩ => ⟨S2048x11264, .bf16⟩
  | .hbm, ⟨2, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x11264 : Shape := ⟨2, ![8192, 11264]⟩
abbrev S2048x11264 : Shape := ⟨2, ![2048, 11264]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S2048x11264, .bf16⟩
  | .hbm, ⟨2, _⟩ => ⟨S_, .f32⟩
  | .hbm, ⟨3, _⟩ => ⟨S8192x2048, .f32⟩
  | .hbm, ⟨4, _⟩ => ⟨S2048x11264, .f32⟩
  | .hbm, ⟨5, _⟩ => ⟨S8192x11264, .f32⟩
  | .hbm, ⟨6, _⟩ => ⟨S8192x11264, .f32⟩
  | .hbm, ⟨7, _⟩ => ⟨S8192x2048, .f32⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x5632 : Shape := ⟨2, ![8192, 5632]⟩
abbrev S5632x2048 : Shape := ⟨2, ![5632, 2048]⟩
abbrev S8192x2048 : Shape := ⟨2, ![8192, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x5632, .f32⟩
  | .hbm, ⟨3, _⟩ => ⟨S5632x2048, .f32⟩
  | .hbm, ⟨4, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S_, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S8192x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x5632 : Shape := ⟨2, ![8192, 5632]⟩
abbrev S8192x2048 : Shape := ⟨2, ![8192, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Printed.lean ====
/-
  The printed kernel's frame.

  Of the printed program only its safety is claimed, so nothing here names what it computes: at every point the body is
  safe from its inputs, outputs and accumulators holding anything, and gives them back holding something.
-/
module

public import proofs.«01_k».proof.Proof.Gen.Kernel.Frame.RunD
public import Idealize.ShloMosaic.Lib.Claim

@[expose] public section

set_option maxRecDepth 16384

noncomputable section

namespace Cert.Kernel.Printed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's buffers: seven inputs, two outputs, two accumulators. -/
structure Mems where
  (q0 : Memref sig .tc .vmem S1024x128 .f32) (hq0 : q0.IsWhole)
  (q1 : Memref sig .tc .vmem S1024x128 .bf16) (hq1 : q1.IsWhole)
  (kv : Memref sig .tc .vmem S1024x256 .bf16) (hkv : kv.IsWhole)
  (kr : Memref sig .tc .vmem S1024x128 .bf16) (hkr : kr.IsWhole)
  (g : Memref sig .tc .vmem S1024x128 .f32) (hg : g.IsWhole)
  (o : Memref sig .tc .vmem S1024x128 .f32) (ho : o.IsWhole)
  (l : Memref sig .tc .vmem S1x1024x1 .f32) (hl : l.IsWhole)
  (r0 : Memref sig .tc .vmem S1024x256 .bf16) (hr0 : r0.IsWhole)
  (r1 : Memref sig .tc .vmem S1x1024x128 .f32) (hr1 : r1.IsWhole)
  (s0 : Memref sig .tc .vmem S1024x256 .f32) (hs0 : s0.IsWhole)
  (s1 : Memref sig .tc .vmem S1024x128 .f32) (hs1 : s1.IsWhole)

/-- What the inputs hold. -/
structure Ins (F : FTy → Type) where
  (q0 : Vec F S1024x128 .f32) (q1 : Vec F S1024x128 .bf16) (kv : Vec F S1024x256 .bf16) (kr : Vec F S1024x128 .bf16)
  (g : Vec F S1024x128 .f32) (o : Vec F S1024x128 .f32) (l : Vec F S1x1024x1 .f32)

section

variable (c : Dev nD) (i : grid0.Coords) (M : Mems) (X : Ins F)

/-- Two buffers at anything. -/
def any {s₀ s₁ : Shape} {e₀ e₁ : EltTy} (m₀ : Memref sig .tc .vmem s₀ e₀) (m₁ : Memref sig .tc .vmem s₁ e₁) : sProp 𝕄 :=
  iprop((∃ d, owns (c : Thread nD τ) m₀ fullShare d) ∗ (∃ d, owns (c : Thread nD τ) m₁ fullShare d))

/-- The inputs' buffers at their contents. -/
def ownIns : sProp 𝕄 :=
  iprop(owns (c : Thread nD τ) M.q0 fullShare X.q0 ∗ owns (c : Thread nD τ) M.q1 fullShare X.q1
    ∗ owns (c : Thread nD τ) M.kv fullShare X.kv ∗ owns (c : Thread nD τ) M.kr fullShare X.kr
    ∗ owns (c : Thread nD τ) M.g fullShare X.g ∗ owns (c : Thread nD τ) M.o fullShare X.o ∗ owns (c : Thread nD τ) M.l fullShare X.l)

/-- The body at a point, on these buffers. -/
abbrev body : Prog (TpuEff nD τ sig (Elt F) Λ₀ .tc) PUnit :=
  cc0_mla_dkv i M.q0 M.hq0 M.q1 M.hq1 M.kv M.hkv M.kr M.hkr M.g M.hg M.o M.ho M.l M.hl M.r0 M.hr0 M.r1 M.hr1 M.s0 M.hs0 M.s1 M.hs1

/-- What the run of a point states that is not the last of its column, the accumulators' buffers as `P₀` and `P₁` say before
    it: the outputs are as they were; -/
abbrev IdleRun (p : Prog (TpuEff nD τ sig (Elt F) Λ₀ .tc) PUnit) (P₀ P₁ : sProp 𝕄) : Type :=
  Σ' (_ : List (View.Piece (Elt F) S1024x256 .bf16)), Σ' (_ : List (View.Piece (Elt F) S1x1024x128 .f32)),
    Σ' (L₀ : List (View.Piece (Elt F) S1024x256 .f32)), { L₁ : List (View.Piece (Elt F) S1024x128 .f32) //
      ∀ (y₀ : Vec F S1024x256 .bf16) (y₁ : Vec F S1x1024x128 .f32) (E : Set ℕ) (K : PUnit → sProp 𝕄),
        iprop(owns (c : Thread nD τ) M.q0 fullShare X.q0 ∗ owns (c : Thread nD τ) M.q1 fullShare X.q1
            ∗ owns (c : Thread nD τ) M.kv fullShare X.kv ∗ owns (c : Thread nD τ) M.kr fullShare X.kr
            ∗ owns (c : Thread nD τ) M.g fullShare X.g ∗ owns (c : Thread nD τ) M.o fullShare X.o
            ∗ owns (c : Thread nD τ) M.l fullShare X.l
            ∗ owns (c : Thread nD τ) M.r0 fullShare y₀ ∗ owns (c : Thread nD τ) M.r1 fullShare y₁ ∗ P₀ ∗ P₁
            ∗ (iprop(owns (c : Thread nD τ) M.q0 fullShare X.q0 ∗ owns (c : Thread nD τ) M.q1 fullShare X.q1
                ∗ owns (c : Thread nD τ) M.kv fullShare X.kv ∗ owns (c : Thread nD τ) M.kr fullShare X.kr
                ∗ owns (c : Thread nD τ) M.g fullShare X.g ∗ owns (c : Thread nD τ) M.o fullShare X.o
                ∗ owns (c : Thread nD τ) M.l fullShare X.l
                ∗ owns (c : Thread nD τ) M.r0 fullShare y₀ ∗ owns (c : Thread nD τ) M.r1 fullShare y₁
                ∗ (∃ f, M.s0.view.loc (c : Thread nD τ) ↦[M.s0.view.set]{fullShare} M.s0.view.writes (Elt F) f L₀)
                ∗ (∃ f, M.s1.view.loc (c : Thread nD τ) ↦[M.s1.view.set]{fullShare} M.s1.view.writes (Elt F) f L₁)) -∗ K ⟨⟩))
          ⊢ wp frame (wpE (defs₀ (F := F)) Variants.none c none) E p K }

/-- and of a last point: the outputs are stored into. -/
abbrev LastRun (p : Prog (TpuEff nD τ sig (Elt F) Λ₀ .tc) PUnit) (P₀ P₁ : sProp 𝕄) : Type :=
  Σ' (R₀ : List (View.Piece (Elt F) S1024x256 .bf16)), Σ' (R₁ : List (View.Piece (Elt F) S1x1024x128 .f32)),
    Σ' (L₀ : List (View.Piece (Elt F) S1024x256 .f32)), { L₁ : List (View.Piece (Elt F) S1024x128 .f32) //
      ∀ (E : Set ℕ) (K : PUnit → sProp 𝕄),
        iprop(owns (c : Thread nD τ) M.q0 fullShare X.q0 ∗ owns (c : Thread nD τ) M.q1 fullShare X.q1
            ∗ owns (c : Thread nD τ) M.kv fullShare X.kv ∗ owns (c : Thread nD τ) M.kr fullShare X.kr
            ∗ owns (c : Thread nD τ) M.g fullShare X.g ∗ owns (c : Thread nD τ) M.o fullShare X.o
            ∗ owns (c : Thread nD τ) M.l fullShare X.l
            ∗ (∃ d, owns (c : Thread nD τ) M.r0 fullShare d) ∗ (∃ d, owns (c : Thread nD τ) M.r1 fullShare d) ∗ P₀ ∗ P₁
            ∗ (iprop(owns (c : Thread nD τ) M.q0 fullShare X.q0 ∗ owns (c : Thread nD τ) M.q1 fullShare X.q1
                ∗ owns (c : Thread nD τ) M.kv fullShare X.kv ∗ owns (c : Thread nD τ) M.kr fullShare X.kr
                ∗ owns (c : Thread nD τ) M.g fullShare X.g ∗ owns (c : Thread nD τ) M.o fullShare X.o
                ∗ owns (c : Thread nD τ) M.l fullShare X.l
                ∗ (∃ f, M.r0.view.loc (c : Thread nD τ) ↦[M.r0.view.set]{fullShare} M.r0.view.writes (Elt F) f R₀)
                ∗ (∃ f, M.r1.view.loc (c : Thread nD τ) ↦[M.r1.view.set]{fullShare} M.r1.view.writes (Elt F) f R₁)
                ∗ (∃ f, M.s0.view.loc (c : Thread nD τ) ↦[M.s0.view.set]{fullShare} M.s0.view.writes (Elt F) f L₀)
                ∗ (∃ f, M.s1.view.loc (c : Thread nD τ) ↦[M.s1.view.set]{fullShare} M.s1.view.writes (Elt F) f L₁)) -∗ K ⟨⟩))
          ⊢ wp frame (wpE (defs₀ (F := F)) Variants.none c none) E p K }

/-- A program is safe from inputs, outputs at anything and accumulators as `P` says. -/
structure Safe (p : Prog (TpuEff nD τ sig (Elt F) Λ₀ .tc) PUnit) (P : sProp 𝕄) : Prop where
  run : ∀ (E : Set ℕ) (K : PUnit → sProp 𝕄),
    iprop(ownIns c M X ∗ any c M.r0 M.r1 ∗ P ∗ (iprop(ownIns c M X ∗ any c M.r0 M.r1 ∗ any c M.s0 M.s1) -∗ K ⟨⟩))
      ⊢ wp frame (wpE (defs₀ (F := F)) Variants.none c none) E p K

/-- A buffer after some stores holds something. -/
theorem any_writes {s : Shape} {e : EltTy} (V : Memref sig .tc .vmem s e) (L : List (View.Piece (Elt F) s e)) :
    (iprop(∃ f, V.view.loc (c : Thread nD τ) ↦[V.view.set]{fullShare} V.view.writes (Elt F) f L) : sProp 𝕄)
      ⊢ iprop(∃ d, owns (c : Thread nD τ) V fullShare d) := by
  iintro ⟨%f, H⟩
  unfold owns
  iexists _
  iexists _
  isplitr
  swap
  · iexact H
  · ipureintro; rfl

/-- From such runs. -/
theorem IdleRun.safe {p : Prog (TpuEff nD τ sig (Elt F) Λ₀ .tc) PUnit} {P₀ P₁ : sProp 𝕄} (R : IdleRun c M X p P₀ P₁) :
    Safe c M X p iprop(P₀ ∗ P₁) := by
  refine ⟨fun E K => ?_⟩
  unfold ownIns any
  iintro ⟨⟨H0, H1, H2, H3, H4, H5, H6⟩, ⟨⟨%d7, H7⟩, ⟨%d8, H8⟩⟩, ⟨HS0, HS1⟩, Hk⟩
  iapply R.2.2.2.2 d7 d8 E K
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  iapply Hk
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7 H8]
  · isplitl [H7]
    · iexists d7; iexact H7
    · iexists d8; iexact H8
  isplitl [HS0]
  · iapply (any_writes c M.s0 _) $$ HS0
  · iapply (any_writes c M.s1 _) $$ HS1

theorem LastRun.safe {p : Prog (TpuEff nD τ sig (Elt F) Λ₀ .tc) PUnit} {P₀ P₁ : sProp 𝕄} (R : LastRun c M X p P₀ P₁) :
    Safe c M X p iprop(P₀ ∗ P₁) := by
  refine ⟨fun E K => ?_⟩
  unfold ownIns any
  iintro ⟨⟨H0, H1, H2, H3, H4, H5, H6⟩, ⟨H7, H8⟩, ⟨HS0, HS1⟩, Hk⟩
  iapply R.2.2.2.2 E K
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  iapply Hk
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7 H8]
  · isplitl [H7]
    · iapply (any_writes c M.r0 _) $$ H7
    · iapply (any_writes c M.r1 _) $$ H8
  isplitl [HS0]
  · iapply (any_writes c M.s0 _) $$ HS0
  · iapply (any_writes c M.s1 _) $$ HS1

/-- Safe from every content of the accumulators is safe from them at anything. -/
theorem Safe.of_all {p : Prog (TpuEff nD τ sig (Elt F) Λ₀ .tc) PUnit}
    (h : ∀ (d₀ : Vec F S1024x256 .f32) (d₁ : Vec F S1024x128 .f32),
      Safe c M X p iprop(owns (c : Thread nD τ) M.s0 fullShare d₀ ∗ owns (c : Thread nD τ) M.s1 fullShare d₁)) :
    Safe c M X p (any c M.s0 M.s1) := by
  refine ⟨fun E K => ?_⟩
  unfold any
  iintro ⟨HX, HO, ⟨⟨%d0, HS0⟩, ⟨%d1, HS1⟩⟩, Hk⟩
  have hr := (h d0 d1).run E K
  unfold any at hr
  iapply hr
  isplitl [HX]; · iexact HX
  isplitl [HO]; · iexact HO
  isplitl [HS0 HS1]
  · isplitl [HS0]; · iexact HS0
    iexact HS1
  iexact Hk

/-- The run of kind A. -/
def runA (h0 : cond0_0 i) (h1 : cond0_1 i) (h2 : ¬cond0_2 i) (h3 : ¬cond0_3 i) :
    IdleRun c M X (body i M) iprop(∃ d, owns (c : Thread nD τ) M.s0 fullShare d) iprop(∃ d, owns (c : Thread nD τ) M.s1 fullShare d) := by
  with_reducible
    exact kernelRun0_A (F := F) c i M.q0 M.hq0 M.q1 M.hq1 M.kv M.hkv M.kr M.hkr M.g M.hg M.o M.ho M.l M.hl
      M.r0 M.hr0 M.r1 M.hr1 M.s0 M.hs0 M.s1 M.hs1 h0 h1 h2 h3 X.q0 X.q1 X.kv X.kr X.g X.o X.l

/-- The run of kind B. -/
def runB (h0 : ¬cond0_0 i) (h1 : ¬cond0_1 i) (h2 : cond0_2 i) (h3 : ¬cond0_3 i) (d₀ : Vec F S1024x256 .f32) (d₁ : Vec F S1024x128 .f32) :
    IdleRun c M X (body i M) (owns (c : Thread nD τ) M.s0 fullShare d₀) (owns (c : Thread nD τ) M.s1 fullShare d₁) := by
  with_reducible
    exact kernelRun0_B (F := F) c i M.q0 M.hq0 M.q1 M.hq1 M.kv M.hkv M.kr M.hkr M.g M.hg M.o M.ho M.l M.hl
      M.r0 M.hr0 M.r1 M.hr1 M.s0 M.hs0 M.s1 M.hs1 h0 h1 h2 h3 X.q0 X.q1 X.kv X.kr X.g X.o X.l d₀ d₁

/-- The run of kind C. -/
def runC (h0 : ¬cond0_0 i) (h1 : ¬cond0_1 i) (h2 : cond0_2 i) (h3 : cond0_3 i) (d₀ : Vec F S1024x256 .f32) (d₁ : Vec F S1024x128 .f32) :
    LastRun c M X (body i M) (owns (c : Thread nD τ) M.s0 fullShare d₀) (owns (c : Thread nD τ) M.s1 fullShare d₁) := by
  with_reducible
    exact kernelRun0_C (F := F) c i M.q0 M.hq0 M.q1 M.hq1 M.kv M.hkv M.kr M.hkr M.g M.hg M.o M.ho M.l M.hl
      M.r0 M.hr0 M.r1 M.hr1 M.s0 M.hs0 M.s1 M.hs1 h0 h1 h2 h3 X.q0 X.q1 X.kv X.kr X.g X.o X.l d₀ d₁

/-- The run of kind D. -/
def runD (h0 : cond0_0 i) (h1 : cond0_1 i) (h2 : ¬cond0_2 i) (h3 : cond0_3 i) :
    LastRun c M X (body i M) iprop(∃ d, owns (c : Thread nD τ) M.s0 fullShare d) iprop(∃ d, owns (c : Thread nD τ) M.s1 fullShare d) := by
  with_reducible
    exact kernelRun0_D (F := F) c i M.q0 M.hq0 M.q1 M.hq1 M.kv M.hkv M.kr M.hkr M.g M.hg M.o M.ho M.l M.hl
      M.r0 M.hr0 M.r1 M.hr1 M.s0 M.hs0 M.s1 M.hs1 h0 h1 h2 h3 X.q0 X.q1 X.kv X.kr X.g X.o X.l

end

variable (m : (ℓ : Loc nD τ sig) → Buf (Elt F) ℓ) (ρ : Dev nD → PrngReg) (c : Dev nD)

/-- The buffers the pipeline hands the body at a point, -/
def memsAt (t : Fin cfg0.N) : Mems where
  q0 := ms0_0 t
  hq0 := hs0_0 t
  q1 := ms0_1 t
  hq1 := hs0_1 t
  kv := ms0_2 t
  hkv := hs0_2 t
  kr := ms0_3 t
  hkr := hs0_3 t
  g := ms0_4 t
  hg := hs0_4 t
  o := ms0_5 t
  ho := hs0_5 t
  l := ms0_6 t
  hl := hs0_6 t
  r0 := ms0_7 t
  hr0 := hs0_7 t
  r1 := ms0_8 t
  hr1 := hs0_8 t
  s0 := scM0_0
  hs0 := Memref.isWhole_whole _
  s1 := scM0_1
  hs1 := Memref.isWhole_whole _

/-- and what the inputs hold there. -/
def insAt (t : Fin cfg0.N) : Ins F where
  q0 := iblk m c 0 t
  q1 := iblk m c 1 t
  kv := iblk m c 2 t
  kr := iblk m c 3 t
  g := iblk m c 4 t
  o := iblk m c 5 t
  l := iblk m c 6 t

variable (t : Fin cfg0.N)

/-- Every point's body is safe. -/
theorem safe_point : Safe c (memsAt t) (insAt m c t) (body (grid0.coords t) (memsAt t)) (any c (memsAt t).s0 (memsAt t).s1) := by
  obtain h0 | h0 := Classical.em (cond0_0 (grid0.coords t))
  · have hd := (hcond0_0 t).mp h0
    have h1 := (hcond0_1 t).mpr hd
    have h2 : ¬cond0_2 (grid0.coords t) := fun h => (hcond0_2 t).mp h hd
    obtain h3 | h3 := Classical.em (cond0_3 (grid0.coords t))
    · exact LastRun.safe c _ _ (runD c _ _ _ h0 h1 h2 h3)
    · exact IdleRun.safe c _ _ (runA c _ _ _ h0 h1 h2 h3)
  · have hd := fun h => h0 ((hcond0_0 t).mpr h)
    have h1 : ¬cond0_1 (grid0.coords t) := fun h => hd ((hcond0_1 t).mp h)
    have h2 := (hcond0_2 t).mpr hd
    obtain h3 | h3 := Classical.em (cond0_3 (grid0.coords t))
    · exact Safe.of_all c _ _ fun d₀ d₁ => LastRun.safe c _ _ (runC c _ _ _ h0 h1 h2 h3 d₀ d₁)
    · exact Safe.of_all c _ _ fun d₀ d₁ => IdleRun.safe c _ _ (runB c _ _ _ h0 h1 h2 h3 d₀ d₁)

/-- The outputs' windows: nothing is named of them. -/
def unnamed : Fin 9 → Bool := fun w => w.val == 7 || w.val == 8

/-- What the arrays hold before the region, and what each window holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (w : Fin cfg0.W) : (dats m 0 c).A w = V m c (Pipeline.arrRef spec0 w) := by
  dsimp only [dats]

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]

theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
theorem before_2 (d) : (dats m 0 c).before 2 t d = iblk m c 2 t := before0_2_of m (dats m 0 c) (A_eq m c 2) (after_2 m c) t d
theorem before_3 (d) : (dats m 0 c).before 3 t d = iblk m c 3 t := before0_3_of m (dats m 0 c) (A_eq m c 3) (after_3 m c) t d
theorem before_4 (d) : (dats m 0 c).before 4 t d = iblk m c 4 t := before0_4_of m (dats m 0 c) (A_eq m c 4) (after_4 m c) t d
theorem before_5 (d) : (dats m 0 c).before 5 t d = iblk m c 5 t := before0_5_of m (dats m 0 c) (A_eq m c 5) (after_5 m c) t d
theorem before_6 (d) : (dats m 0 c).before 6 t d = iblk m c 6 t := before0_6_of m (dats m 0 c) (A_eq m c 6) (after_6 m c) t d

/-- An input's window after a point. -/
theorem leaves_of_live (w : Fin cfg0.W) (hw : cfg0.idle w (grid0.coords t) = false) (x) (hx : (dats m 0 c).after w t = x) :
    (dats m 0 c).leavesExact w t = owns (c : Thread nD τ) ((cfg0.win w).stage (cfg0.slots t w)) fullShare x := by
  unfold Dat.leavesExact; rw [hw, hx]

theorem leaves_0 : (dats m 0 c).leavesExact 0 t = owns (c : Thread nD τ) (ms0_0 t) fullShare (iblk m c 0 t) :=
  leaves_of_live m c t 0 (liveAt0_0 t) _ (after_0 m c t)

theorem leaves_1 : (dats m 0 c).leavesExact 1 t = owns (c : Thread nD τ) (ms0_1 t) fullShare (iblk m c 1 t) :=
  leaves_of_live m c t 1 (liveAt0_1 t) _ (after_1 m c t)

theorem leaves_2 : (dats m 0 c).leavesExact 2 t = owns (c : Thread nD τ) (ms0_2 t) fullShare (iblk m c 2 t) :=
  leaves_of_live m c t 2 (liveAt0_2 t) _ (after_2 m c t)

theorem leaves_3 : (dats m 0 c).leavesExact 3 t = owns (c : Thread nD τ) (ms0_3 t) fullShare (iblk m c 3 t) :=
  leaves_of_live m c t 3 (liveAt0_3 t) _ (after_3 m c t)

theorem leaves_4 : (dats m 0 c).leavesExact 4 t = owns (c : Thread nD τ) (ms0_4 t) fullShare (iblk m c 4 t) :=
  leaves_of_live m c t 4 (liveAt0_4 t) _ (after_4 m c t)

theorem leaves_5 : (dats m 0 c).leavesExact 5 t = owns (c : Thread nD τ) (ms0_5 t) fullShare (iblk m c 5 t) :=
  leaves_of_live m c t 5 (liveAt0_5 t) _ (after_5 m c t)

theorem leaves_6 : (dats m 0 c).leavesExact 6 t = owns (c : Thread nD τ) (ms0_6 t) fullShare (iblk m c 6 t) :=
  leaves_of_live m c t 6 (liveAt0_6 t) _ (after_6 m c t)

/-- The inputs, the outputs and the accumulators at a point, buffer by buffer. -/
theorem ownIns_at : (ownIns c (memsAt t) (insAt m c t) : sProp 𝕄) = iprop(owns (c : Thread nD τ) (ms0_0 t) fullShare (iblk m c 0 t)
    ∗ owns (c : Thread nD τ) (ms0_1 t) fullShare (iblk m c 1 t) ∗ owns (c : Thread nD τ) (ms0_2 t) fullShare (iblk m c 2 t)
    ∗ owns (c : Thread nD τ) (ms0_3 t) fullShare (iblk m c 3 t) ∗ owns (c : Thread nD τ) (ms0_4 t) fullShare (iblk m c 4 t)
    ∗ owns (c : Thread nD τ) (ms0_5 t) fullShare (iblk m c 5 t) ∗ owns (c : Thread nD τ) (ms0_6 t) fullShare (iblk m c 6 t)) := by
  unfold ownIns memsAt insAt
  rfl

/-- The body's conditions at a point, on what the pipeline hands it, -/
def bodyPre : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d))

/-- and what it owes the pipeline. -/
def bodyPost : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (∃ d, owns (c : Thread nD τ) (ms0_7 t) fullShare d) ∗ (∃ d, owns (c : Thread nD τ) (ms0_8 t) fullShare d))

theorem any_outs : (any c (memsAt t).r0 (memsAt t).r1 : sProp 𝕄)
    = iprop((∃ d, owns (c : Thread nD τ) (ms0_7 t) fullShare d) ∗ (∃ d, owns (c : Thread nD τ) (ms0_8 t) fullShare d)) := by
  unfold any memsAt
  rfl

theorem any_acc : (any c (memsAt t).s0 (memsAt t).s1 : sProp 𝕄)
    = iprop((∃ d, owns (c : Thread nD τ) scM0_0 fullShare d) ∗ (∃ d, owns (c : Thread nD τ) scM0_1 fullShare d)) := by
  unfold any memsAt
  rfl

/-- The body at any point, the program a variable. -/
theorem sound_prog {p : Prog (TpuEff nD τ sig (Elt F) Λ₀ .tc) PUnit} (hp : body (grid0.coords t) (memsAt t) = p) :
    bodyPre m c t ⊢ wp frame (wpE (defs₀ (F := F)) Variants.none c none) Set.univ p (fun _ => bodyPost m c t) := by
  unfold bodyPre bodyPost
  simp only [before_0, before_1, before_2, before_3, before_4, before_5, before_6]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq,
    leaves_0, leaves_1, leaves_2, leaves_3, leaves_4, leaves_5, leaves_6]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, H7, H8⟩
  have hs := safe_point m c t
  rw [hp] at hs
  have hr := hs.run Set.univ
  rw [ownIns_at, any_outs, any_acc] at hr
  iapply hr _
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7 H8]
  · isplitl [H7]; · iexact H7
    iexact H8
  isplitl [HS]; · iexact HS
  iintro ⟨⟨H0, H1, H2, H3, H4, H5, H6⟩, ⟨H7, H8⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_row : body (grid0.coords t) (memsAt t) = (defs₀ (F := F)) .tc cfg0.body (cfg0.bodyArgs t (cfg0.slots t)) := by
  unfold defs₀; rw [Defs.onTc_tc]; rfl

/-- The body meets the pipeline's obligation. -/
theorem body_obligation : BodyObligation (dats (F := F) m 0 c) (defs₀ (F := F)) Variants.none () Set.univ unnamed := fun t => by
  rewrite [bigSep_W0, bigSep_W0]
  have hp := body_row (F := F) t
  revert hp
  generalize (defs₀ (F := F)) .tc cfg0.body (cfg0.bodyArgs t (cfg0.slots t)) = p
  intro hp
  exact triple_restated (sound_prog m c t hp) rfl .rfl fun _ => .rfl

set_option maxHeartbeats 2000000 in
-- the launch theorem's implicit arguments are found by unfolding plain definitions in a metavariable's type
set_option backward.isDefEq.respectTransparency.types false in
/-- The launch: every input array ends unchanged, and every semaphore counter ends at zero. -/
theorem run_quiescent : θ_run defs (onTc (τ := τ) (main (F := F))) (s₀ m ρ)
    (fun r => (Pipeline.RDat.FramePost (cfgs 0) (fun c => (dats m 0 c).toRForget unnamed) (V m)) r ∧ r.2.sem = fun _ => 0) :=
  Pipeline.θ_run_frame_track_forget (Q' := _) cfgs (dats m) (0 : Fin 1) launch0 defs₀ Variants.none unnamed m ρ main
    (hbody := fun c => (body_obligation m c).loose) (hshare := fun c => (dats m 0 c).share_full fun _ => rfl)
    (howed := fun _ _ => rfl) (V := V m) (hmain := hmain m Variants.none) (hA := fun c => A_eq m c) (hin := fun _ => .rfl)
    (hout := fun _ => .rfl)

/-- The arguments are inputs of the region or untouched by it. -/
theorem args_kept (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
    (Pipeline.RDat.FramePost.arr_in h c 1 rfl).trans ((hA c 1).trans (V_main_arg1 m c)),
    (Pipeline.RDat.FramePost.arr_in h c 2 rfl).trans ((hA c 2).trans (V_main_arg2 m c)),
    (Pipeline.RDat.FramePost.arr_in h c 3 rfl).trans ((hA c 3).trans (V_main_arg3 m c)),
    (Pipeline.RDat.FramePost.arr_in h c 4 rfl).trans ((hA c 4).trans (V_main_arg4 m c))⟩) h

/-- The frame: the arguments end unchanged and the counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (args_kept m ρ (fun c => (dats m 0 c).toRForget unnamed) (A_eq m) ((θ_run defs _ _).mono (fun _ h => h.1) (run_quiescent m ρ)))
    ((θ_run defs _ _).mono (fun _ h => h.2) (run_quiescent m ρ))

end Cert.Kernel.Printed
-- ==== Proof.Point.lean ====
/-
  One grid point of the kernel.

  A point is of one of four kinds: on the diagonal or below it, and the last of its keys' row or not. On the diagonal the
  accumulators start from zero; below it they go on from what they held; at the last point the two output blocks are
  stored. The run of each kind gives the stores it makes; here they are turned into contents, the same two pairs for
  every kind: what the accumulators hold afterwards, and what the output blocks hold where they are stored.
-/
module

public import proofs.«01_k».proof.Proof.Gen.KernelIdeal.Frame.RunD

@[expose] public section

set_option maxRecDepth 16384

noncomputable section

namespace Cert.KernelIdeal.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The body's buffers: seven inputs, two outputs, two accumulators. -/
structure Mems where
  (q0 : Memref sig .tc .vmem S1024x128 .f32) (hq0 : q0.IsWhole)
  (q1 : Memref sig .tc .vmem S1024x128 .bf16) (hq1 : q1.IsWhole)
  (kv : Memref sig .tc .vmem S1024x256 .bf16) (hkv : kv.IsWhole)
  (kr : Memref sig .tc .vmem S1024x128 .bf16) (hkr : kr.IsWhole)
  (g : Memref sig .tc .vmem S1024x128 .f32) (hg : g.IsWhole)
  (o : Memref sig .tc .vmem S1024x128 .f32) (ho : o.IsWhole)
  (l : Memref sig .tc .vmem S1x1024x1 .f32) (hl : l.IsWhole)
  (r0 : Memref sig .tc .vmem S1024x256 .bf16) (hr0 : r0.IsWhole)
  (r1 : Memref sig .tc .vmem S1x1024x128 .f32) (hr1 : r1.IsWhole)
  (s0 : Memref sig .tc .vmem S1024x256 .f32) (hs0 : s0.IsWhole)
  (s1 : Memref sig .tc .vmem S1024x128 .f32) (hs1 : s1.IsWhole)

/-- What the inputs hold. -/
structure Ins (F : FTy → Type) where
  (q0 : Vec F S1024x128 .f32) (q1 : Vec F S1024x128 .bf16) (kv : Vec F S1024x256 .bf16) (kr : Vec F S1024x128 .bf16)
  (g : Vec F S1024x128 .f32) (o : Vec F S1024x128 .f32) (l : Vec F S1x1024x1 .f32)

/-- What the accumulators hold. -/
structure Acc (F : FTy → Type) where
  (k : Vec F S1024x256 .f32) (v : Vec F S1024x128 .f32)

/-- What the output blocks hold. -/
structure Outs (F : FTy → Type) where
  (kv : Vec F S1024x256 .bf16) (kr : Vec F S1x1024x128 .f32)

variable (c : Dev nD) (i : grid0.Coords) (M : Mems) (X : Ins F) (S : Acc F)

/-- The inputs' buffers at their contents. -/
def ownIns : sProp 𝕄 :=
  iprop(owns (c : Thread nD τ) M.q0 fullShare X.q0 ∗ owns (c : Thread nD τ) M.q1 fullShare X.q1
    ∗ owns (c : Thread nD τ) M.kv fullShare X.kv ∗ owns (c : Thread nD τ) M.kr fullShare X.kr
    ∗ owns (c : Thread nD τ) M.g fullShare X.g ∗ owns (c : Thread nD τ) M.o fullShare X.o ∗ owns (c : Thread nD τ) M.l fullShare X.l)

/-- The accumulators' buffers at theirs, -/
def ownAcc : sProp 𝕄 :=
  iprop(owns (c : Thread nD τ) M.s0 fullShare S.k ∗ owns (c : Thread nD τ) M.s1 fullShare S.v)

/-- and the outputs'. -/
def ownOuts (O : Outs F) : sProp 𝕄 :=
  iprop(owns (c : Thread nD τ) M.r0 fullShare O.kv ∗ owns (c : Thread nD τ) M.r1 fullShare O.kr)

/-- The body at a point, on these buffers. -/
abbrev body : Prog (TpuEff nD τ sig (Elt F) Λ₀ .tc) PUnit :=
  cc0_mla_dkv i M.q0 M.hq0 M.q1 M.hq1 M.kv M.hkv M.kr M.hkr M.g M.hg M.o M.ho M.l M.hl M.r0 M.hr0 M.r1 M.hr1 M.s0 M.hs0 M.s1 M.hs1

/-- What a run states at a point that is not the last, the accumulators' buffers as `P₀` and `P₁` say before it. -/
abbrev IdleRun (p : Prog (TpuEff nD τ sig (Elt F) Λ₀ .tc) PUnit) (P₀ P₁ : sProp 𝕄) : Type :=
  Σ' (_ : List (View.Piece (Elt F) S1024x256 .bf16)), Σ' (_ : List (View.Piece (Elt F) S1x1024x128 .f32)),
    Σ' (L₀ : List (View.Piece (Elt F) S1024x256 .f32)), { L₁ : List (View.Piece (Elt F) S1024x128 .f32) //
      ∀ (y₀ : Vec F S1024x256 .bf16) (y₁ : Vec F S1x1024x128 .f32) (E : Set ℕ) (K : PUnit → sProp 𝕄),
        iprop(owns (c : Thread nD τ) M.q0 fullShare X.q0 ∗ owns (c : Thread nD τ) M.q1 fullShare X.q1
            ∗ owns (c : Thread nD τ) M.kv fullShare X.kv ∗ owns (c : Thread nD τ) M.kr fullShare X.kr
            ∗ owns (c : Thread nD τ) M.g fullShare X.g ∗ owns (c : Thread nD τ) M.o fullShare X.o
            ∗ owns (c : Thread nD τ) M.l fullShare X.l
            ∗ owns (c : Thread nD τ) M.r0 fullShare y₀ ∗ owns (c : Thread nD τ) M.r1 fullShare y₁ ∗ P₀ ∗ P₁
            ∗ (iprop(owns (c : Thread nD τ) M.q0 fullShare X.q0 ∗ owns (c : Thread nD τ) M.q1 fullShare X.q1
                ∗ owns (c : Thread nD τ) M.kv fullShare X.kv ∗ owns (c : Thread nD τ) M.kr fullShare X.kr
                ∗ owns (c : Thread nD τ) M.g fullShare X.g ∗ owns (c : Thread nD τ) M.o fullShare X.o
                ∗ owns (c : Thread nD τ) M.l fullShare X.l
                ∗ owns (c : Thread nD τ) M.r0 fullShare y₀ ∗ owns (c : Thread nD τ) M.r1 fullShare y₁
                ∗ (∃ f, M.s0.view.loc (c : Thread nD τ) ↦[M.s0.view.set]{fullShare} M.s0.view.writes (Elt F) f L₀)
                ∗ (∃ f, M.s1.view.loc (c : Thread nD τ) ↦[M.s1.view.set]{fullShare} M.s1.view.writes (Elt F) f L₁)) -∗ K ⟨⟩))
          ⊢ wp frame (wpE (defs₀ (F := F)) Variants.none c none) E p K }

/-- The same at a last point, where the outputs are stored. -/
abbrev LastRun (p : Prog (TpuEff nD τ sig (Elt F) Λ₀ .tc) PUnit) (P₀ P₁ : sProp 𝕄) : Type :=
  Σ' (R₀ : List (View.Piece (Elt F) S1024x256 .bf16)), Σ' (R₁ : List (View.Piece (Elt F) S1x1024x128 .f32)),
    Σ' (L₀ : List (View.Piece (Elt F) S1024x256 .f32)), { L₁ : List (View.Piece (Elt F) S1024x128 .f32) //
      ∀ (E : Set ℕ) (K : PUnit → sProp 𝕄),
        iprop(owns (c : Thread nD τ) M.q0 fullShare X.q0 ∗ owns (c : Thread nD τ) M.q1 fullShare X.q1
            ∗ owns (c : Thread nD τ) M.kv fullShare X.kv ∗ owns (c : Thread nD τ) M.kr fullShare X.kr
            ∗ owns (c : Thread nD τ) M.g fullShare X.g ∗ owns (c : Thread nD τ) M.o fullShare X.o
            ∗ owns (c : Thread nD τ) M.l fullShare X.l
            ∗ (∃ d, owns (c : Thread nD τ) M.r0 fullShare d) ∗ (∃ d, owns (c : Thread nD τ) M.r1 fullShare d) ∗ P₀ ∗ P₁
            ∗ (iprop(owns (c : Thread nD τ) M.q0 fullShare X.q0 ∗ owns (c : Thread nD τ) M.q1 fullShare X.q1
                ∗ owns (c : Thread nD τ) M.kv fullShare X.kv ∗ owns (c : Thread nD τ) M.kr fullShare X.kr
                ∗ owns (c : Thread nD τ) M.g fullShare X.g ∗ owns (c : Thread nD τ) M.o fullShare X.o
                ∗ owns (c : Thread nD τ) M.l fullShare X.l
                ∗ (∃ f, M.r0.view.loc (c : Thread nD τ) ↦[M.r0.view.set]{fullShare} M.r0.view.writes (Elt F) f R₀)
                ∗ (∃ f, M.r1.view.loc (c : Thread nD τ) ↦[M.r1.view.set]{fullShare} M.r1.view.writes (Elt F) f R₁)
                ∗ (∃ f, M.s0.view.loc (c : Thread nD τ) ↦[M.s0.view.set]{fullShare} M.s0.view.writes (Elt F) f L₀)
                ∗ (∃ f, M.s1.view.loc (c : Thread nD τ) ↦[M.s1.view.set]{fullShare} M.s1.view.writes (Elt F) f L₁)) -∗ K ⟨⟩))
          ⊢ wp frame (wpE (defs₀ (F := F)) Variants.none c none) E p K }

/-- Some contents of the accumulators. -/
abbrev Any₀ : sProp 𝕄 := iprop(∃ d, owns (c : Thread nD τ) M.s0 fullShare d)
abbrev Any₁ : sProp 𝕄 := iprop(∃ d, owns (c : Thread nD τ) M.s1 fullShare d)

/-- The run of a point on the diagonal, not the last; -/
def runA (h : conds0_A i) : IdleRun c M X (body i M) (Any₀ c M) (Any₁ c M) := by
  with_reducible
    exact kernelRun0_A (F := F) c i M.q0 M.hq0 M.q1 M.hq1 M.kv M.hkv M.kr M.hkr M.g M.hg M.o M.ho M.l M.hl
      M.r0 M.hr0 M.r1 M.hr1 M.s0 M.hs0 M.s1 M.hs1 h.1 h.2.1 h.2.2.1 h.2.2.2 X.q0 X.q1 X.kv X.kr X.g X.o X.l

/-- below it, not the last; -/
def runB (h : conds0_B i) : IdleRun c M X (body i M) (owns (c : Thread nD τ) M.s0 fullShare S.k) (owns (c : Thread nD τ) M.s1 fullShare S.v) := by
  with_reducible
    exact kernelRun0_B (F := F) c i M.q0 M.hq0 M.q1 M.hq1 M.kv M.hkv M.kr M.hkr M.g M.hg M.o M.ho M.l M.hl
      M.r0 M.hr0 M.r1 M.hr1 M.s0 M.hs0 M.s1 M.hs1 h.1 h.2.1 h.2.2.1 h.2.2.2 X.q0 X.q1 X.kv X.kr X.g X.o X.l S.k S.v

/-- below it, the last; -/
def runC (h : conds0_C i) : LastRun c M X (body i M) (owns (c : Thread nD τ) M.s0 fullShare S.k) (owns (c : Thread nD τ) M.s1 fullShare S.v) := by
  with_reducible
    exact kernelRun0_C (F := F) c i M.q0 M.hq0 M.q1 M.hq1 M.kv M.hkv M.kr M.hkr M.g M.hg M.o M.ho M.l M.hl
      M.r0 M.hr0 M.r1 M.hr1 M.s0 M.hs0 M.s1 M.hs1 h.1 h.2.1 h.2.2.1 h.2.2.2 X.q0 X.q1 X.kv X.kr X.g X.o X.l S.k S.v

/-- on it, the last. -/
def runD (h : conds0_D i) : LastRun c M X (body i M) (Any₀ c M) (Any₁ c M) := by
  with_reducible
    exact kernelRun0_D (F := F) c i M.q0 M.hq0 M.q1 M.hq1 M.kv M.hkv M.kr M.hkr M.g M.hg M.o M.ho M.l M.hl
      M.r0 M.hr0 M.r1 M.hr1 M.s0 M.hs0 M.s1 M.hs1 h.1 h.2.1 h.2.2.1 h.2.2.2 X.q0 X.q1 X.kv X.kr X.g X.o X.l

/-- What a point of kind A leaves in the accumulators. -/
@[irreducible] def accA (h : conds0_A i) : Acc F :=
  ⟨View.canon (runA c i M X h).2.2.1, View.canon (runA c i M X h).2.2.2.1⟩

/-- What a point of kind B leaves in the accumulators. -/
@[irreducible] def accB (h : conds0_B i) : Acc F :=
  ⟨View.canon (runB c i M X S h).2.2.1, View.canon (runB c i M X S h).2.2.2.1⟩

/-- What a point of kind C leaves in the accumulators. -/
@[irreducible] def accC (h : conds0_C i) : Acc F :=
  ⟨View.canon (runC c i M X S h).2.2.1, View.canon (runC c i M X S h).2.2.2.1⟩

/-- What a point of kind D leaves in the accumulators. -/
@[irreducible] def accD (h : conds0_D i) : Acc F :=
  ⟨View.canon (runD c i M X h).2.2.1, View.canon (runD c i M X h).2.2.2.1⟩

/-- What a point of kind C leaves in the outputs. -/
@[irreducible] def outC (h : conds0_C i) : Outs F :=
  ⟨View.canon (runC c i M X S h).1, View.canon (runC c i M X S h).2.1⟩

/-- What a point of kind D leaves in the outputs. -/
@[irreducible] def outD (h : conds0_D i) : Outs F :=
  ⟨View.canon (runD c i M X h).1, View.canon (runD c i M X h).2.1⟩

/-- What the accumulators hold after a point. -/
def accNext : Acc F :=
  @dite _ (conds0_A i) (Classical.propDecidable _) (fun h => accA c i M X h) fun _ =>
  @dite _ (conds0_B i) (Classical.propDecidable _) (fun h => accB c i M X S h) fun _ =>
  @dite _ (conds0_C i) (Classical.propDecidable _) (fun h => accC c i M X S h) fun _ =>
  @dite _ (conds0_D i) (Classical.propDecidable _) (fun h => accD c i M X h) fun _ => S

/-- What the outputs hold after a last point. -/
def outNext : Outs F :=
  @dite _ (conds0_C i) (Classical.propDecidable _) (fun h => outC c i M X S h) fun _ =>
  @dite _ (conds0_D i) (Classical.propDecidable _) (fun h => outD c i M X h) fun _ => ⟨View.canon [], View.canon []⟩

theorem accNext_A (h : conds0_A i) : accNext c i M X S = accA c i M X h := by
  rw [accNext, dif_pos h]

theorem accNext_B (h : conds0_B i) : accNext c i M X S = accB c i M X S h := by
  have hA : ¬conds0_A i := fun h' => h.1 h'.1
  rw [accNext, dif_neg hA, dif_pos h]

theorem accNext_C (h : conds0_C i) : accNext c i M X S = accC c i M X S h := by
  have hA : ¬conds0_A i := fun h' => h.1 h'.1
  have hB : ¬conds0_B i := fun h' => h'.2.2.2 h.2.2.2
  rw [accNext, dif_neg hA, dif_neg hB, dif_pos h]

theorem accNext_D (h : conds0_D i) : accNext c i M X S = accD c i M X h := by
  have hA : ¬conds0_A i := fun h' => h'.2.2.2 h.2.2.2
  have hB : ¬conds0_B i := fun h' => h'.1 h.1
  have hC : ¬conds0_C i := fun h' => h'.1 h.1
  rw [accNext, dif_neg hA, dif_neg hB, dif_neg hC, dif_pos h]

theorem outNext_C (h : conds0_C i) : outNext c i M X S = outC c i M X S h := by
  rw [outNext, dif_pos h]

theorem outNext_D (h : conds0_D i) : outNext c i M X S = outD c i M X h := by
  have hC : ¬conds0_C i := fun h' => h'.1 h.1
  rw [outNext, dif_neg hC, dif_pos h]

/-- On the diagonal the accumulators' contents before the point do not matter. -/
theorem accNext_fresh (S' : Acc F) (hk : conds0_A i ∨ conds0_D i) : accNext c i M X S = accNext c i M X S' := by
  obtain h | h := hk
  · rw [accNext_A c i M X S h, accNext_A c i M X S' h]
  · rw [accNext_D c i M X S h, accNext_D c i M X S' h]

/-- A buffer after stores that cover it. -/
theorem owns_writes {s : Shape} {e : EltTy} (V : Memref sig .tc .vmem s e) (L : List (View.Piece (Elt F) s e))
    (hL : ∀ y, ∃ p ∈ L, y ∈ p.1.set) :
    (iprop(∃ f, V.view.loc (c : Thread nD τ) ↦[V.view.set]{fullShare} V.view.writes (Elt F) f L) : sProp 𝕄)
      ⊢ owns (c : Thread nD τ) V fullShare (View.canon L) := by
  iintro ⟨%f, H⟩
  unfold owns
  iexists _
  isplitr
  swap
  · iexact H
  · ipureintro
    exact View.read_writes_eq_canon _ _ _ hL

/-- A list of stores that covers a block. -/
abbrev Covers {s : Shape} {e : EltTy} (L : List (View.Piece (Elt F) s e)) : Prop := ∀ y, ∃ p ∈ L, y ∈ p.1.set

/-- A program is safe from inputs, outputs `O` and accumulators as `P` says, and leaves outputs `O'` and accumulators `A`. -/
structure Sound (p : Prog (TpuEff nD τ sig (Elt F) Λ₀ .tc) PUnit) (P : sProp 𝕄) (O O' : Outs F) (A : Acc F) : Prop where
  run : ∀ (E : Set ℕ) (K : PUnit → sProp 𝕄),
    iprop(ownIns c M X ∗ ownOuts c M O ∗ P ∗ (iprop(ownIns c M X ∗ ownOuts c M O' ∗ ownAcc c M A) -∗ K ⟨⟩))
      ⊢ wp frame (wpE (defs₀ (F := F)) Variants.none c none) E p K

/-- From such a run, with accumulators that its stores cover: the outputs keep what they hold. -/
theorem IdleRun.sound {p : Prog (TpuEff nD τ sig (Elt F) Λ₀ .tc) PUnit} {P₀ P₁ : sProp 𝕄} (R : IdleRun c M X p P₀ P₁) (h₀ : Covers R.2.2.1) (h₁ : Covers R.2.2.2.1)
    (O : Outs F) : Sound c M X p iprop(P₀ ∗ P₁) O O ⟨View.canon R.2.2.1, View.canon R.2.2.2.1⟩ := by
  refine ⟨fun E K => ?_⟩
  unfold ownIns ownOuts ownAcc
  iintro ⟨⟨H0, H1, H2, H3, H4, H5, H6⟩, ⟨H7, H8⟩, ⟨HS0, HS1⟩, Hk⟩
  iapply R.2.2.2.2 O.kv O.kr E K
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  iapply Hk
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7 H8]
  · isplitl [H7]; · iexact H7
    iexact H8
  isplitl [HS0]
  · iapply (owns_writes c M.s0 _ h₀) $$ HS0
  · iapply (owns_writes c M.s1 _ h₁) $$ HS1

/-- From such a run with stores that cover outputs and accumulators. -/
theorem LastRun.sound {p : Prog (TpuEff nD τ sig (Elt F) Λ₀ .tc) PUnit} {P₀ P₁ : sProp 𝕄} (R : LastRun c M X p P₀ P₁) (g₀ : Covers R.1) (g₁ : Covers R.2.1)
    (h₀ : Covers R.2.2.1) (h₁ : Covers R.2.2.2.1) (O : Outs F) :
    Sound c M X p iprop(P₀ ∗ P₁) O ⟨View.canon R.1, View.canon R.2.1⟩ ⟨View.canon R.2.2.1, View.canon R.2.2.2.1⟩ := by
  refine ⟨fun E K => ?_⟩
  unfold ownIns ownOuts ownAcc
  iintro ⟨⟨H0, H1, H2, H3, H4, H5, H6⟩, ⟨H7, H8⟩, ⟨HS0, HS1⟩, Hk⟩
  iapply R.2.2.2.2 E K
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  iintro ⟨H0, H1, H2, H3, H4, H5, H6, H7, H8, HS0, HS1⟩
  iapply Hk
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7 H8]
  · isplitl [H7]
    · iapply (owns_writes c M.r0 _ g₀) $$ H7
    · iapply (owns_writes c M.r1 _ g₁) $$ H8
  isplitl [HS0]
  · iapply (owns_writes c M.s0 _ h₀) $$ HS0
  · iapply (owns_writes c M.s1 _ h₁) $$ HS1

theorem any_of_acc : (ownAcc c M S : sProp 𝕄) ⊢ iprop(Any₀ c M ∗ Any₁ c M) := by
  unfold ownAcc
  iintro ⟨H0, H1⟩
  isplitl [H0]
  · iexists _; iexact H0
  · iexists _; iexact H1

/-! Every kind's stores cover the accumulators, and a last point's the outputs. -/

theorem coverA_0 (h : conds0_A i) : Covers (runA c i M X h).2.2.1 := fun y =>
  View.cover_of_wholeMem (runA c i M X h).2.2.1 (by unfold runA; sl_whole_mem) y

theorem coverA_1 (h : conds0_A i) : Covers (runA c i M X h).2.2.2.1 := fun y =>
  View.cover_of_wholeMem (runA c i M X h).2.2.2.1 (by unfold runA; sl_whole_mem) y

theorem coverB_0 (h : conds0_B i) : Covers (runB c i M X S h).2.2.1 := fun y =>
  View.cover_of_wholeMem (runB c i M X S h).2.2.1 (by unfold runB; sl_whole_mem) y

theorem coverB_1 (h : conds0_B i) : Covers (runB c i M X S h).2.2.2.1 := fun y =>
  View.cover_of_wholeMem (runB c i M X S h).2.2.2.1 (by unfold runB; sl_whole_mem) y

theorem coverC_0 (h : conds0_C i) : Covers (runC c i M X S h).1 := fun y =>
  View.cover_of_wholeMem (runC c i M X S h).1 (by unfold runC; sl_whole_mem) y

theorem coverC_1 (h : conds0_C i) : Covers (runC c i M X S h).2.1 := fun y =>
  View.cover_of_wholeMem (runC c i M X S h).2.1 (by unfold runC; sl_whole_mem) y

theorem coverC_2 (h : conds0_C i) : Covers (runC c i M X S h).2.2.1 := fun y =>
  View.cover_of_wholeMem (runC c i M X S h).2.2.1 (by unfold runC; sl_whole_mem) y

theorem coverC_3 (h : conds0_C i) : Covers (runC c i M X S h).2.2.2.1 := fun y =>
  View.cover_of_wholeMem (runC c i M X S h).2.2.2.1 (by unfold runC; sl_whole_mem) y

theorem coverD_0 (h : conds0_D i) : Covers (runD c i M X h).1 := fun y =>
  View.cover_of_wholeMem (runD c i M X h).1 (by unfold runD; sl_whole_mem) y

theorem coverD_1 (h : conds0_D i) : Covers (runD c i M X h).2.1 := fun y =>
  View.cover_of_wholeMem (runD c i M X h).2.1 (by unfold runD; sl_whole_mem) y

theorem coverD_2 (h : conds0_D i) : Covers (runD c i M X h).2.2.1 := fun y =>
  View.cover_of_wholeMem (runD c i M X h).2.2.1 (by unfold runD; sl_whole_mem) y

theorem coverD_3 (h : conds0_D i) : Covers (runD c i M X h).2.2.2.1 := fun y =>
  View.cover_of_wholeMem (runD c i M X h).2.2.2.1 (by unfold runD; sl_whole_mem) y

theorem sound_A (h : conds0_A i) (O : Outs F) :
    Sound c M X (body i M) iprop(Any₀ c M ∗ Any₁ c M) O O (accA c i M X h) := by
  rw [accA]
  exact IdleRun.sound c M X (runA c i M X h) (coverA_0 c i M X h) (coverA_1 c i M X h) O

theorem sound_B (h : conds0_B i) (O : Outs F) :
    Sound c M X (body i M) (ownAcc c M S) O O (accB c i M X S h) := by
  rw [accB, ownAcc]
  exact IdleRun.sound c M X (runB c i M X S h) (coverB_0 c i M X S h) (coverB_1 c i M X S h) O

theorem sound_C (h : conds0_C i) (O : Outs F) :
    Sound c M X (body i M) (ownAcc c M S) O (outC c i M X S h) (accC c i M X S h) := by
  rw [accC, outC, ownAcc]
  exact LastRun.sound c M X (runC c i M X S h) (coverC_0 c i M X S h) (coverC_1 c i M X S h) (coverC_2 c i M X S h) (coverC_3 c i M X S h) O

theorem sound_D (h : conds0_D i) (O : Outs F) :
    Sound c M X (body i M) iprop(Any₀ c M ∗ Any₁ c M) O (outD c i M X h) (accD c i M X h) := by
  rw [accD, outD]
  exact LastRun.sound c M X (runD c i M X h) (coverD_0 c i M X h) (coverD_1 c i M X h) (coverD_2 c i M X h) (coverD_3 c i M X h) O

end Cert.KernelIdeal.Point
-- ==== Proof.Frame.lean ====
/-
  The kernel's run over its whole grid.

  Between points the two accumulators hold what the points before left: `scr` follows them, a point at a time. A point
  that is not the last of its keys' row leaves the output blocks alone, and the pipeline does not write them back there.
  From this the launch gives what every array holds at the end, and that the arguments end unchanged.
-/
module

public import proofs.«01_k».proof.Proof.Point
public import Idealize.ShloMosaic.Lib.Claim

@[expose] public section

set_option maxRecDepth 16384

noncomputable section

namespace Cert.KernelIdeal.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-- The buffers the pipeline hands the body at a point, -/
def memsAt (t : Fin cfg0.N) : Mems where
  q0 := ms0_0 t
  hq0 := hs0_0 t
  q1 := ms0_1 t
  hq1 := hs0_1 t
  kv := ms0_2 t
  hkv := hs0_2 t
  kr := ms0_3 t
  hkr := hs0_3 t
  g := ms0_4 t
  hg := hs0_4 t
  o := ms0_5 t
  ho := hs0_5 t
  l := ms0_6 t
  hl := hs0_6 t
  r0 := ms0_7 t
  hr0 := hs0_7 t
  r1 := ms0_8 t
  hr1 := hs0_8 t
  s0 := scM0_0
  hs0 := Memref.isWhole_whole _
  s1 := scM0_1
  hs1 := Memref.isWhole_whole _

/-- and what the inputs hold there. -/
def insAt (t : Fin cfg0.N) : Ins F where
  q0 := iblk m c 0 t
  q1 := iblk m c 1 t
  kv := iblk m c 2 t
  kr := iblk m c 3 t
  g := iblk m c 4 t
  o := iblk m c 5 t
  l := iblk m c 6 t

/-- The accumulators before each point; before the first they hold anything. -/
def scr : ℕ → Acc F
  | 0 => ⟨View.canon [], View.canon []⟩
  | n + 1 => if h : n < cfg0.N then accNext c (grid0.coords ⟨n, h⟩) (memsAt ⟨n, h⟩) (insAt m c ⟨n, h⟩) (scr n) else scr n

theorem scr_succ (t : Fin cfg0.N) :
    scr m c (t.val + 1) = accNext c (grid0.coords t) (memsAt t) (insAt m c t) (scr m c t.val) := by
  rw [scr, dif_pos t.isLt]

/-- What a last point stores into the outputs. -/
@[irreducible] def outAt (t : Fin cfg0.N) : Outs F := outNext c (grid0.coords t) (memsAt t) (insAt m c t) (scr m c t.val)

/-- Every point is of one of the four kinds. -/
theorem kinds (t : Fin cfg0.N) :
    conds0_A (grid0.coords t) ∨ conds0_B (grid0.coords t) ∨ conds0_C (grid0.coords t) ∨ conds0_D (grid0.coords t) := by
  obtain h0 | h0 := Classical.em (cond0_0 (grid0.coords t))
  · have hd := (hcond0_0 t).mp h0
    have h1 := (hcond0_1 t).mpr hd
    have h2 : ¬cond0_2 (grid0.coords t) := fun h => (hcond0_2 t).mp h hd
    obtain h3 | h3 := Classical.em (cond0_3 (grid0.coords t))
    · exact Or.inr (Or.inr (Or.inr ⟨h0, h1, h2, h3⟩))
    · exact Or.inl ⟨h0, h1, h2, h3⟩
  · have hd := fun h => h0 ((hcond0_0 t).mpr h)
    have h1 : ¬cond0_1 (grid0.coords t) := fun h => hd ((hcond0_1 t).mp h)
    have h2 := (hcond0_2 t).mpr hd
    obtain h3 | h3 := Classical.em (cond0_3 (grid0.coords t))
    · exact Or.inr (Or.inr (Or.inl ⟨h0, h1, h2, h3⟩))
    · exact Or.inr (Or.inl ⟨h0, h1, h2, h3⟩)

/-- The first is on the diagonal. -/
theorem ne_zero_of_off (t : Fin cfg0.N) (h : ¬cond0_0 (grid0.coords t)) : t.val ≠ 0 := fun h0 =>
  h ((hcond0_0 t).mpr (Or.inl (by rw [h0])))

theorem Sound.of_any {p : Prog (TpuEff nD τ sig (Elt F) Λ₀ .tc) PUnit} {M : Mems} {X : Ins F} {S A : Acc F} {O O' : Outs F}
    (h : Sound c M X p iprop(Any₀ c M ∗ Any₁ c M) O O' A) : Sound c M X p (ownAcc c M S) O O' A := by
  refine ⟨fun E K => ?_⟩
  iintro ⟨HX, HO, HA, Hk⟩
  iapply h.run E K
  isplitl [HX]; · iexact HX
  isplitl [HO]; · iexact HO
  isplitl [HA]; · iapply (any_of_acc c M S) $$ HA
  iexact Hk

/-- A point goes from the accumulators before it to the accumulators before the next one; the outputs it leaves alone, or
    stores. -/
theorem sound_point (t : Fin cfg0.N) (S : Acc F) (hS : t.val ≠ 0 → S = scr m c t.val) (O : Outs F) :
    ∃ O' : Outs F, ((cond0_3 (grid0.coords t) → O' = outAt m c t) ∧ (¬cond0_3 (grid0.coords t) → O' = O))
      ∧ Sound c (memsAt t) (insAt m c t) (body (grid0.coords t) (memsAt t)) (ownAcc c (memsAt t) S) O O' (scr m c (t.val + 1)) := by
  rw [scr_succ, outAt]
  obtain h | h | h | h := kinds t
  · refine ⟨O, ⟨fun h' => absurd h' h.2.2.2, fun _ => rfl⟩, ?_⟩
    rw [accNext_A c _ _ _ _ h]
    exact Sound.of_any c (sound_A c _ _ _ h O)
  · refine ⟨O, ⟨fun h' => absurd h' h.2.2.2, fun _ => rfl⟩, ?_⟩
    rw [accNext_B c _ _ _ _ h, ← hS (ne_zero_of_off t h.1)]
    exact sound_B c _ _ _ S h O
  · refine ⟨outC c (grid0.coords t) (memsAt t) (insAt m c t) S h, ⟨fun _ => ?_, fun h' => absurd h.2.2.2 h'⟩, ?_⟩
    · rw [outNext_C c _ _ _ _ h, ← hS (ne_zero_of_off t h.1)]
    · rw [accNext_C c _ _ _ _ h, ← hS (ne_zero_of_off t h.1)]
      exact sound_C c _ _ _ S h O
  · refine ⟨outD c (grid0.coords t) (memsAt t) (insAt m c t) h, ⟨fun _ => ?_, fun h' => absurd h.2.2.2 h'⟩, ?_⟩
    · rw [outNext_D c _ _ _ _ h]
    · rw [accNext_D c _ _ _ _ h]
      exact Sound.of_any c (sound_D c _ _ _ h O)

/-- What holds between points: the accumulators as `scr` says, and the generator's register at some state. -/
def inv (n : ℕ) : sProp 𝕄 :=
  iprop((∃ S : Acc F, ⌜n ≠ 0 → S = scr m c n⌝
      ∗ (owns (c : Thread nD τ) scM0_0 fullShare S.k ∗ owns (c : Thread nD τ) scM0_1 fullShare S.v)) ∗ ∃ r, prngReg c r)

/-- What the arrays hold before the region, and what each window holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outAt m c t).kv
    | ⟨8, _⟩ => (outAt m c t).kr
  Φ t := inv m c t.val
  q _ := fullShare
  owed _ := 0

theorem A_eq (w : Fin cfg0.W) : (dats m 0 c).A w = V m c (Pipeline.arrRef spec0 w) := by
  dsimp only [dats]

variable (t : Fin cfg0.N)

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = (outAt m c t).kv := by dsimp only [dats]
theorem after_8 : (dats m 0 c).after 8 t = (outAt m c t).kr := by dsimp only [dats]

theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
theorem before_2 (d) : (dats m 0 c).before 2 t d = iblk m c 2 t := before0_2_of m (dats m 0 c) (A_eq m c 2) (after_2 m c) t d
theorem before_3 (d) : (dats m 0 c).before 3 t d = iblk m c 3 t := before0_3_of m (dats m 0 c) (A_eq m c 3) (after_3 m c) t d
theorem before_4 (d) : (dats m 0 c).before 4 t d = iblk m c 4 t := before0_4_of m (dats m 0 c) (A_eq m c 4) (after_4 m c) t d
theorem before_5 (d) : (dats m 0 c).before 5 t d = iblk m c 5 t := before0_5_of m (dats m 0 c) (A_eq m c 5) (after_5 m c) t d
theorem before_6 (d) : (dats m 0 c).before 6 t d = iblk m c 6 t := before0_6_of m (dats m 0 c) (A_eq m c 6) (after_6 m c) t d

/-- An input's window after a point. -/
theorem leaves_of_live (w : Fin cfg0.W) (hw : cfg0.idle w (grid0.coords t) = false) (x) (hx : (dats m 0 c).after w t = x) :
    (dats m 0 c).leavesExact w t = owns (c : Thread nD τ) ((cfg0.win w).stage (cfg0.slots t w)) fullShare x := by
  unfold Dat.leavesExact; rw [hw, hx]

theorem leaves_0 : (dats m 0 c).leavesExact 0 t = owns (c : Thread nD τ) (ms0_0 t) fullShare (iblk m c 0 t) :=
  leaves_of_live m c t 0 (liveAt0_0 t) _ (after_0 m c t)

theorem leaves_1 : (dats m 0 c).leavesExact 1 t = owns (c : Thread nD τ) (ms0_1 t) fullShare (iblk m c 1 t) :=
  leaves_of_live m c t 1 (liveAt0_1 t) _ (after_1 m c t)

theorem leaves_2 : (dats m 0 c).leavesExact 2 t = owns (c : Thread nD τ) (ms0_2 t) fullShare (iblk m c 2 t) :=
  leaves_of_live m c t 2 (liveAt0_2 t) _ (after_2 m c t)

theorem leaves_3 : (dats m 0 c).leavesExact 3 t = owns (c : Thread nD τ) (ms0_3 t) fullShare (iblk m c 3 t) :=
  leaves_of_live m c t 3 (liveAt0_3 t) _ (after_3 m c t)

theorem leaves_4 : (dats m 0 c).leavesExact 4 t = owns (c : Thread nD τ) (ms0_4 t) fullShare (iblk m c 4 t) :=
  leaves_of_live m c t 4 (liveAt0_4 t) _ (after_4 m c t)

theorem leaves_5 : (dats m 0 c).leavesExact 5 t = owns (c : Thread nD τ) (ms0_5 t) fullShare (iblk m c 5 t) :=
  leaves_of_live m c t 5 (liveAt0_5 t) _ (after_5 m c t)

theorem leaves_6 : (dats m 0 c).leavesExact 6 t = owns (c : Thread nD τ) (ms0_6 t) fullShare (iblk m c 6 t) :=
  leaves_of_live m c t 6 (liveAt0_6 t) _ (after_6 m c t)

/-- The inputs, the outputs and the accumulators at a point, buffer by buffer. -/
theorem ownIns_at : (ownIns c (memsAt t) (insAt m c t) : sProp 𝕄) = iprop(owns (c : Thread nD τ) (ms0_0 t) fullShare (iblk m c 0 t)
    ∗ owns (c : Thread nD τ) (ms0_1 t) fullShare (iblk m c 1 t) ∗ owns (c : Thread nD τ) (ms0_2 t) fullShare (iblk m c 2 t)
    ∗ owns (c : Thread nD τ) (ms0_3 t) fullShare (iblk m c 3 t) ∗ owns (c : Thread nD τ) (ms0_4 t) fullShare (iblk m c 4 t)
    ∗ owns (c : Thread nD τ) (ms0_5 t) fullShare (iblk m c 5 t) ∗ owns (c : Thread nD τ) (ms0_6 t) fullShare (iblk m c 6 t)) := by
  unfold ownIns memsAt insAt
  rfl

theorem ownOuts_at (O : Outs F) : (ownOuts c (memsAt t) O : sProp 𝕄)
    = iprop(owns (c : Thread nD τ) (ms0_7 t) fullShare O.kv ∗ owns (c : Thread nD τ) (ms0_8 t) fullShare O.kr) := by
  unfold ownOuts memsAt
  rfl

theorem ownAcc_at (S : Acc F) : (ownAcc c (memsAt t) S : sProp 𝕄)
    = iprop(owns (c : Thread nD τ) scM0_0 fullShare S.k ∗ owns (c : Thread nD τ) scM0_1 fullShare S.v) := by
  unfold ownAcc memsAt
  rfl

/-- The outputs' windows after a point. -/
theorem leaves_outs (O O' : Outs F) (d7 d8) (h7 : O.kv = (dats m 0 c).before 7 t d7) (h8 : O.kr = (dats m 0 c).before 8 t d8)
    (hl : cond0_3 (grid0.coords t) → O' = outAt m c t) (hi : ¬cond0_3 (grid0.coords t) → O' = O) :
    iprop(owns (c : Thread nD τ) (ms0_7 t) fullShare O'.kv ∗ owns (c : Thread nD τ) (ms0_8 t) fullShare O'.kr) ⊢ iprop((dats m 0 c).leavesExact 7 t ∗ (dats m 0 c).leavesExact 8 t) := by
  obtain h | h | h | h := kinds t
  · obtain rfl := hi h.2.2.2
    rw [Dat.leavesExact_idle (dats m 0 c) 7 t (idleAt0_7_A t h.1 h.2.1 h.2.2.1 h.2.2.2) (noFlush0_7_A t h.1 h.2.1 h.2.2.1 h.2.2.2),
      Dat.leavesExact_idle (dats m 0 c) 8 t (idleAt0_8_A t h.1 h.2.1 h.2.2.1 h.2.2.2) (noFlush0_8_A t h.1 h.2.1 h.2.2.1 h.2.2.2), h7, h8]
    iintro ⟨H7, H8⟩
    isplitl [H7]
    · iexists _; iexact H7
    · iexists _; iexact H8
  · obtain rfl := hi h.2.2.2
    rw [Dat.leavesExact_idle (dats m 0 c) 7 t (idleAt0_7_B t h.1 h.2.1 h.2.2.1 h.2.2.2) (noFlush0_7_B t h.1 h.2.1 h.2.2.1 h.2.2.2),
      Dat.leavesExact_idle (dats m 0 c) 8 t (idleAt0_8_B t h.1 h.2.1 h.2.2.1 h.2.2.2) (noFlush0_8_B t h.1 h.2.1 h.2.2.1 h.2.2.2), h7, h8]
    iintro ⟨H7, H8⟩
    isplitl [H7]
    · iexists _; iexact H7
    · iexists _; iexact H8
  · obtain rfl := hl h.2.2.2
    rw [leaves_of_live m c t 7 (liveAt0_7_C t h.1 h.2.1 h.2.2.1 h.2.2.2) _ (after_7 m c t),
      leaves_of_live m c t 8 (liveAt0_8_C t h.1 h.2.1 h.2.2.1 h.2.2.2) _ (after_8 m c t)]
  · obtain rfl := hl h.2.2.2
    rw [leaves_of_live m c t 7 (liveAt0_7_D t h.1 h.2.1 h.2.2.1 h.2.2.2) _ (after_7 m c t),
      leaves_of_live m c t 8 (liveAt0_8_D t h.1 h.2.1 h.2.2.1 h.2.2.2) _ (after_8 m c t)]

/-- The body's conditions at a point, on what the pipeline hands it, -/
def bodyPre : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it owes the pipeline. -/
def bodyPost : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

theorem inv_castSucc : (dats m 0 c).Φ t.castSucc = inv m c t.val := by
  dsimp only [dats]; rfl

theorem inv_succ : (dats m 0 c).Φ t.succ = inv m c (t.val + 1) := by
  dsimp only [dats]; rfl

/-- The body at any point, the program a variable. -/
theorem sound_prog {p : Prog (TpuEff nD τ sig (Elt F) Λ₀ .tc) PUnit} (hp : body (grid0.coords t) (memsAt t) = p) :
    bodyPre m c t ⊢ wp frame (wpE (defs₀ (F := F)) Variants.none c none) Set.univ p (fun _ => bodyPost m c t) := by
  unfold bodyPre bodyPost
  simp only [before_0, before_1, before_2, before_3, before_4, before_5, before_6]
  rw [show (dats m 0 c).owesAt () t.succ = (dats m 0 c).owesAt () t.castSucc from rfl, inv_castSucc, inv_succ,
    leaves_0, leaves_1, leaves_2, leaves_3, leaves_4, leaves_5, leaves_6]
  unfold inv
  iintro ⟨⟨⟨%S, %hS, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨O', ⟨hl, hi⟩, hs⟩ := sound_point m c t S hS ⟨(dats m 0 c).before 7 t d7, (dats m 0 c).before 8 t d8⟩
  rw [hp] at hs
  have hr := hs.run Set.univ
  rw [ownIns_at, ownOuts_at, ownOuts_at, ownAcc_at, ownAcc_at] at hr
  iapply hr _
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7 H8]
  · isplitl [H7]; · iexact H7
    iexact H8
  isplitl [HS]
  · iexact HS
  iintro ⟨HX, HO, HA⟩
  isplitl [HA Hg]
  · isplitl [HA]
    · iexists (scr m c (t.val + 1))
      isplitr
      · ipureintro; exact fun _ => rfl
      · iexact HA
    iexact Hg
  isplitl [Ho]; · iexact Ho
  icases HX with ⟨H0, H1, H2, H3, H4, H5, H6⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves_outs m c t _ O' d7 d8 rfl rfl hl hi) $$ HO

end Cert.KernelIdeal.Point
-- ==== Proof.Launch.lean ====
/-
  The launch: from a body that is sound at every point, what every array holds at the end, and that the arguments end
  unchanged.
-/
module

public import proofs.«01_k».proof.Proof.Frame
public import Idealize.ShloMosaic.Lib.Claim

@[expose] public section

set_option maxRecDepth 16384

noncomputable section

namespace Cert.KernelIdeal.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

variable (t : Fin cfg0.N)

theorem body_row : body (grid0.coords t) (memsAt t) = (defs₀ (F := F)) .tc cfg0.body (cfg0.bodyArgs t (cfg0.slots t)) := by
  unfold defs₀; rw [Defs.onTc_tc]; rfl

/-- The body meets the pipeline's obligation. -/
theorem body_obligation : BodyObligation (dats (F := F) m 0 c) (defs₀ (F := F)) Variants.none () Set.univ := fun t => by
  rewrite [bigSep_W0, bigSep_W0]
  have hp := body_row (F := F) t
  revert hp
  generalize (defs₀ (F := F)) .tc cfg0.body (cfg0.bodyArgs t (cfg0.slots t)) = p
  intro hp
  exact triple_restated (sound_prog m c t hp) rfl .rfl fun _ => by
    unfold bodyPost Dat.leavesExact
    dsimp only []
    generalize idle0 7 (grid0.coords t) = b7
    generalize idle0 8 (grid0.coords t) = b8
    exact .rfl

/-- Before the first point the accumulators may hold anything, -/
theorem hin : Pipeline.ΦA spec0 c ⊢ (dats m 0 c).Φ 0 := by
  rw [PhiA0_eq, show (dats m 0 c).Φ 0 = inv m c 0 from rfl]
  unfold inv
  iintro ⟨⟨⟨%w0, H0⟩, ⟨%w1, H1⟩⟩, Hg⟩
  isplitl [H0 H1]
  · iexists (⟨w0, w1⟩ : Acc F)
    isplitr
    · ipureintro; exact fun h => absurd rfl h
    · isplitl [H0]; · iexact H0
      iexact H1
  iexact Hg

/-- and after the last one what they hold is forgotten. -/
theorem hout : (dats m 0 c).Φ (Fin.last cfg0.N) ⊢ Pipeline.ΦA spec0 c := by
  rw [PhiA0_eq, show (dats m 0 c).Φ (Fin.last cfg0.N) = inv m c cfg0.N from rfl]
  unfold inv
  iintro ⟨⟨%S, -, H0, H1⟩, Hg⟩
  isplitl [H0 H1]
  · isplitl [H0]
    · iexists _; iexact H0
    · iexists _; iexact H1
  iexact Hg

set_option maxHeartbeats 2000000 in
-- the launch theorem's implicit arguments are found by unfolding plain definitions in a metavariable's type
set_option backward.isDefEq.respectTransparency.types false in
/-- The launch: every array ends at what the data says, and every semaphore counter ends at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (run_quiescent m ρ)

/-- The frame: the arguments end unchanged and the counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run m ρ)) ((θ_run defs _ _).mono (fun _ h => h.2) (run_quiescent m ρ))

end Cert.KernelIdeal.Point
-- ==== Proof.Grid.lean ====
/-
  The order the grid visits the tiles in, and the blocks it reads there.

  A head is 36 points, four rows of nine. Row `p` is two sweeps: key block `p` against the query blocks `p` to 7, and then
  key block `7 - p` against the query blocks `7 - p` to 7. So the pairs of blocks on or below the diagonal are each
  visited once, those of one key block one after the other, from the diagonal to the last query block.
-/
module

public import proofs.«01_k».proof.Proof.Frame
public import Idealize.ShloMosaic.Lib.Pointwise
public import Idealize.ShloMosaic.Lib.Pipeline.ValueKit.Geometry

@[expose] public section

set_option maxRecDepth 16384
set_option maxHeartbeats 2000000

noncomputable section

namespace Cert.KernelIdeal.Grid

open Idealize.ShloMosaic Idealize.ShloMosaic.TcCoe Idealize.SL.Sem Idealize.ShloMosaic.Tactic
open Cert.KernelIdeal Cert.KernelIdeal.Gen Cert.KernelIdeal.Point

/-- The query block of the `n`-th point, -/
def qOf (n : ℕ) : ℕ := if n % 9 < 8 - n % 36 / 9 then n % 36 / 9 + n % 9 else n % 9 - 1

/-- and its key block. -/
def kOf (n : ℕ) : ℕ := if n % 9 < 8 - n % 36 / 9 then n % 36 / 9 else 7 - n % 36 / 9

theorem qOf_lt (n : ℕ) : qOf n < 8 := by unfold qOf; split <;> omega
theorem kOf_lt (n : ℕ) : kOf n < 8 := by unfold kOf; split <;> omega

theorem points : cfg0.N = 576 := rfl

/-- The head, -/
def hd (t : Fin cfg0.N) : Fin 16 := ⟨t.val / 36, by have := t.isLt; have := points; omega⟩

/-- query block and key block of a point. -/
def qb (t : Fin cfg0.N) : Fin 8 := ⟨qOf t.val, qOf_lt _⟩
def kb (t : Fin cfg0.N) : Fin 8 := ⟨kOf t.val, kOf_lt _⟩

/-- A sweep begins on the diagonal; -/
theorem diag_iff (t : Fin cfg0.N) : cond0_0 (grid0.coords t) ↔ qb t = kb t := by
  rw [hcond0_0, Fin.ext_iff]
  exact (by decide +kernel : ∀ t : Fin grid0.N, (t.val % 36 = 0 ∨ t.val % 36 = 8 ∨ t.val % 36 = 9 ∨ t.val % 36 = 16
    ∨ t.val % 36 = 18 ∨ t.val % 36 = 24 ∨ t.val % 36 = 27 ∨ t.val % 36 = 32) ↔ qOf t.val = kOf t.val) t

/-- elsewhere it is one query block further than the point before, with the same head and keys; -/
theorem off_step (t : Fin cfg0.N) (h : qb t ≠ kb t) :
    t.val ≠ 0 ∧ (t.val - 1) / 36 = t.val / 36 ∧ kOf (t.val - 1) = kOf t.val ∧ qOf (t.val - 1) + 1 = qOf t.val
      ∧ kOf t.val < qOf t.val :=
  (by decide +kernel : ∀ t : Fin grid0.N, qOf t.val ≠ kOf t.val → t.val ≠ 0 ∧ (t.val - 1) / 36 = t.val / 36
    ∧ kOf (t.val - 1) = kOf t.val ∧ qOf (t.val - 1) + 1 = qOf t.val ∧ kOf t.val < qOf t.val) t
    (fun h' => h (Fin.ext h'))

/-- and it ends with the last query block. -/
theorem last_iff (t : Fin cfg0.N) : cond0_3 (grid0.coords t) ↔ (qb t).val = 7 := by
  rw [hcond0_3]
  exact (by decide +kernel : ∀ t : Fin grid0.N, (t.val % 36 = 7 ∨ t.val % 36 = 8 ∨ t.val % 36 = 15 ∨ t.val % 36 = 17
    ∨ t.val % 36 = 23 ∨ t.val % 36 = 26 ∨ t.val % 36 = 31 ∨ t.val % 36 = 35) ↔ qOf t.val = 7) t

/-! ## The windows' blocks -/

theorem idx_q0 : ∀ t : Fin cfg0.N, win0_0.index t = ![qOf t.val, t.val / 36] := (by decide +kernel : ∀ t : Fin grid0.N, _)
theorem idx_q1 : ∀ t : Fin cfg0.N, win0_1.index t = ![qOf t.val, t.val / 36] := (by decide +kernel : ∀ t : Fin grid0.N, _)
theorem idx_kv : ∀ t : Fin cfg0.N, win0_2.index t = ![kOf t.val, t.val / 36] := (by decide +kernel : ∀ t : Fin grid0.N, _)
theorem idx_kr : ∀ t : Fin cfg0.N, win0_3.index t = ![kOf t.val, 0] := (by decide +kernel : ∀ t : Fin grid0.N, _)
theorem idx_g : ∀ t : Fin cfg0.N, win0_4.index t = ![qOf t.val, t.val / 36] := (by decide +kernel : ∀ t : Fin grid0.N, _)
theorem idx_o : ∀ t : Fin cfg0.N, win0_5.index t = ![qOf t.val, t.val / 36] := (by decide +kernel : ∀ t : Fin grid0.N, _)
theorem idx_l : ∀ t : Fin cfg0.N, win0_6.index t = ![t.val / 36, qOf t.val, 0] := (by decide +kernel : ∀ t : Fin grid0.N, _)
theorem idx_r0 : ∀ t : Fin cfg0.N, win0_7.index t = ![kOf t.val, t.val / 36] := (by decide +kernel : ∀ t : Fin grid0.N, _)
theorem idx_r1 : ∀ t : Fin cfg0.N, win0_8.index t = ![t.val / 36, kOf t.val, 0] := (by decide +kernel : ∀ t : Fin grid0.N, _)

/-- Row `r` of block `b`. -/
def gl (b : Fin 8) (r : Fin 1024) : Fin 8192 := ⟨b.val * 1024 + r.val, by omega⟩

end Cert.KernelIdeal.Grid

end
-- ==== Proof.Tile.lean ====
/-
  One tile of the gradient, in numbers.

  A grid point holds 1024 queries and 1024 keys of one head. Of the queries it has the two halves of q, the gradient
  of the output, the output and the row's log-sum-exp; of the keys the two halves of k, and v. This file names what
  the point computes of them: the weight `wgt` of a (query, key) pair, the gradient `dsc` of its score, and the two
  sums over the queries that are added to the key's accumulators.
-/
module

public import proofs.«01_k».proof.Proof.Gen.KernelIdeal
public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Tile

open Idealize.ShloMosaic Idealize.ShloMosaic.TcCoe Idealize.SL.Sem
open Cert.KernelIdeal Cert.KernelIdeal.Gen

/-- The softmax scale, the number both programs print. -/
abbrev scale : EReal := Ideal.ofBits FTy.f32 1033096506#32

/-- A query's 256 lanes: 128 from the first array, 128 from the second. -/
def lanesQ (x0 : FVec Ideal S1024x128 .f32) (x1 : FVec Ideal S1024x128 .bf16) (r : Fin 1024) (d : Fin 256) : EReal :=
  if h : d.val < 128 then x0 (ix2 r ⟨d.val, h⟩) else x1 (ix2 r ⟨d.val - 128, by omega⟩)

/-- A key's 256 lanes: the first 128 of the packed key and value, and the 128 that the heads share. -/
def lanesK (x2 : FVec Ideal S1024x256 .bf16) (x3 : FVec Ideal S1024x128 .bf16) (j : Fin 1024) (d : Fin 256) : EReal :=
  if h : d.val < 128 then x2 (ix2 j ⟨d.val, by omega⟩) else x3 (ix2 j ⟨d.val - 128, by omega⟩)

variable (x0 : FVec Ideal S1024x128 .f32) (x1 : FVec Ideal S1024x128 .bf16) (x2 : FVec Ideal S1024x256 .bf16)
  (x3 : FVec Ideal S1024x128 .bf16) (x4 x5 : FVec Ideal S1024x128 .f32) (x6 : FVec Ideal S1x1024x1 .f32)

/-- The softmax weight of query `r` and key `j`, from the row's log-sum-exp; zero where the pair is masked. -/
def wgt (diag : Bool) (r j : Fin 1024) : EReal :=
  if diag = true ∧ r.val < j.val then 0
  else Ideal.exp ((∑ d : Fin 256, lanesQ x0 x1 r d * lanesK x2 x3 j d) * scale - x6 (ix3 0 r 0))

/-- The gradient of the score of query `r` and key `j`. -/
def dsc (diag : Bool) (r j : Fin 1024) : EReal :=
  wgt x0 x1 x2 x3 x6 diag r j
    * ((∑ e : Fin 128, x4 (ix2 r e) * x2 (ix2 j ⟨128 + e.val, by omega⟩)) - ∑ e : Fin 128, x4 (ix2 r e) * x5 (ix2 r e)) * scale

/-- What query `r` adds to the gradient of lane `e` of key `j`'s value; -/
def termV (diag : Bool) (j : Fin 1024) (e : Fin 128) (r : Fin 1024) : EReal :=
  wgt x0 x1 x2 x3 x6 diag r j * x4 (ix2 r e)

/-- and to that of lane `d` of the key. -/
def termK (diag : Bool) (j : Fin 1024) (d : Fin 256) (r : Fin 1024) : EReal :=
  dsc x0 x1 x2 x3 x4 x5 x6 diag r j * lanesQ x0 x1 r d

/-- A masked pair adds nothing. -/
theorem termV_masked {j : Fin 1024} {r : Fin 1024} (h : r.val < j.val) (e : Fin 128) :
    termV x0 x1 x2 x3 x4 x6 true j e r = 0 := by
  rw [termV, wgt, if_pos ⟨rfl, h⟩, zero_mul]

theorem termK_masked {j : Fin 1024} {r : Fin 1024} (h : r.val < j.val) (d : Fin 256) :
    termK x0 x1 x2 x3 x4 x5 x6 true j d r = 0 := by
  rw [termK, dsc, wgt, if_pos ⟨rfl, h⟩, zero_mul, zero_mul, zero_mul]

/-- The rows of a tile, 256 at a time. -/
theorem sum_chunks (f : Fin 1024 → EReal) (a : EReal) :
    a + (∑ x : Fin 256, f ⟨x.val, by omega⟩) + (∑ x : Fin 256, f ⟨256 + x.val, by omega⟩)
      + (∑ x : Fin 256, f ⟨512 + x.val, by omega⟩) + (∑ x : Fin 256, f ⟨768 + x.val, by omega⟩) = a + ∑ r, f r := by
  rw [Fin.sum_univ_tiles 4 256 rfl f, Fin.sum_univ_four]
  simp only [add_assoc]
  congr 2

/-- The mask the kernel prints is the extended real below every number. -/
theorem mask_eq : (Named.named (F := Ideal) κ "mask" (φ := .f32) 0xF149F2CA#32 : EReal) = ⊥ := rfl

/-- The exponential of a masked score, `off + r` the query's row and `j` the key's: zero past the diagonal. -/
theorem exp_masked (off : Nat) (hoff : off ≤ 768) (r : Nat) (hr : r < 256) (j : Nat) (hj : j < 1024) (s l : EReal) :
    Ideal.exp (Scalar.select (IntOp.cmpi CmpIPredicate.sle (BitVec.ofNat 32 j) (IntOp.addi (BitVec.ofNat 32 off) (BitVec.ofNat 32 r)))
        s (Named.named (F := Ideal) κ "mask" (φ := .f32) 0xF149F2CA#32 : EReal) - l)
      = if off + r < j then 0 else Ideal.exp (s - l) := by
  have e : IntOp.cmpi CmpIPredicate.sle (BitVec.ofNat 32 j) (IntOp.addi (BitVec.ofNat 32 off) (BitVec.ofNat 32 r))
      = BitVec.ofBool (decide (j ≤ off + r)) := by
    rw [show IntOp.addi (BitVec.ofNat 32 off) (BitVec.ofNat 32 r) = BitVec.ofNat 32 (off + r) from (BitVec.ofNat_add _ _).symm,
      WordCmp.cmpi_sle_eq]
    congr 1
    rw [decide_eq_decide]
    word_cmp
  rw [mask_eq, e]
  by_cases h : off + r < j
  · rw [if_pos h, decide_eq_false (by omega)]
    show Ideal.exp ((⊥ : EReal) - l) = 0
    rw [EReal.bot_sub]; rfl
  · rw [if_neg h, decide_eq_true (by omega)]
    rfl

end Cert.KernelIdeal.Tile
-- ==== Proof.Attn.lean ====
/-
  The attention of one layer and its gradient, in numbers.

  `Args` holds what the call reads: the q projection, the rope half of q, the packed keys and values, the rope half of
  the keys that the heads share, and the gradient of the output. The first half of the file names the quantities both
  programs speak of; the second names the gradient as the kernel writes it, from the row's log-sum-exp, and as the
  derivative of the softmax writes it, from the row's maximum and sum, and proves the two equal when what is read is
  finite.
-/
module

public import Idealize.ShloMosaic.Lib.Pointwise

@[expose] public section

set_option maxRecDepth 16384

noncomputable section

namespace Cert.Attn

open Idealize.ShloMosaic

/-- What the call reads, as tables of extended reals. -/
structure Args where
  proj : Fin 8192 → Fin 13312 → EReal
  qr : Fin 8192 → Fin 2048 → EReal
  kv : Fin 8192 → Fin 4096 → EReal
  kr : Fin 8192 → Fin 128 → EReal
  dout : Fin 8192 → Fin 2048 → EReal

/-- Every entry that is read is a real number. -/
structure Args.Finite (A : Args) : Prop where
  proj : ∀ (i : Fin 8192) (c : Fin 2048), ∃ r : ℝ, A.proj i ⟨c.val, by omega⟩ = r
  qr : ∀ i c, ∃ r : ℝ, A.qr i c = r
  kv : ∀ i c, ∃ r : ℝ, A.kv i c = r
  kr : ∀ i c, ∃ r : ℝ, A.kr i c = r
  dout : ∀ i c, ∃ r : ℝ, A.dout i c = r

variable (A : Args) (h : Fin 16)

/-- The softmax scale, the number both programs print. -/
abbrev scale : EReal := Ideal.ofBits FTy.f32 1033096506#32

/-- Lane `d` of query `i`, -/
def q (i : Fin 8192) (d : Fin 256) : EReal :=
  if hd : d.val < 128 then A.proj i ⟨h.val * 128 + d.val, by omega⟩ else A.qr i ⟨h.val * 128 + (d.val - 128), by omega⟩

/-- of key `j`, -/
def k (j : Fin 8192) (d : Fin 256) : EReal :=
  if hd : d.val < 128 then A.kv j ⟨h.val * 256 + d.val, by omega⟩ else A.kr j ⟨d.val - 128, by omega⟩

/-- and lane `e` of value `j`; -/
def v (j : Fin 8192) (e : Fin 128) : EReal := A.kv j ⟨h.val * 256 + (128 + e.val), by omega⟩

/-- the gradient of lane `e` of output `i`. -/
def g (i : Fin 8192) (e : Fin 128) : EReal := A.dout i ⟨h.val * 128 + e.val, by omega⟩

/-- The score of a (query, key) pair, -/
def s (i j : Fin 8192) : EReal := (∑ d, q A h i d * k A h j d) * scale

/-- below every number where the key comes after the query. -/
def sm (i j : Fin 8192) : EReal := if j ≤ i then s A h i j else ⊥

/-- A row's maximum, -/
def mx (i : Fin 8192) : EReal := Finset.univ.fold max ⊥ (sm A h i)

/-- the exponentials above it, -/
def ex (i j : Fin 8192) : EReal := Ideal.exp (sm A h i j - mx A h i)

/-- and their sum. -/
def tot (i : Fin 8192) : EReal := ∑ j, ex A h i j

/-- The row's log-sum-exp. -/
def lse (i : Fin 8192) : EReal := mx A h i + Ideal.log (tot A h i)

/-- The attention's output. -/
def out (i : Fin 8192) (e : Fin 128) : EReal := ∑ j, v A h j e * Ideal.div (ex A h i j) (tot A h i)

/-- The gradient of a softmax weight. -/
def dp (i j : Fin 8192) : EReal := ∑ e, g A h i e * v A h j e

/-! ## As the kernel writes it -/

/-- The weight, from the log-sum-exp. -/
def wt (i j : Fin 8192) : EReal := if i < j then 0 else Ideal.exp (s A h i j - lse A h i)

/-- The gradient of the score, from the weight and the output. -/
def ds (i j : Fin 8192) : EReal := wt A h i j * (dp A h i j - ∑ e, g A h i e * out A h i e) * scale

/-! ## As the derivative of the softmax writes it -/

/-- The gradient of an exponential: through its own weight, and through the sum. -/
def dex (i j : Fin 8192) : EReal :=
  Ideal.div (dp A h i j) (tot A h i)
    + -(∑ j', dp A h i j' * Ideal.div 1 (tot A h i * tot A h i) * ex A h i j')

/-- The gradient of the score. -/
def dsr (i j : Fin 8192) : EReal := (if j ≤ i then dex A h i j * ex A h i j else 0) * scale

/-! ## The two agree -/

theorem scale_real : ∃ c : ℝ, scale = c := by
  unfold scale Ideal.ofBits Ideal.ieee
  dsimp only
  rw [if_neg (by decide)]
  split <;> exact ⟨_, rfl⟩

theorem coe_sum {n : Nat} (f : Fin n → ℝ) : ∑ i, (f i : EReal) = ((∑ i, f i : ℝ) : EReal) := by
  induction (Finset.univ : Finset (Fin n)) using Finset.induction_on with
  | empty => simp
  | insert a t ha ih => rw [Finset.sum_insert ha, Finset.sum_insert ha, ih, EReal.coe_add]

variable {A}

theorem q_real (hA : A.Finite) : ∃ r : Fin 8192 → Fin 256 → ℝ, ∀ i d, q A h i d = r i d := by
  have : ∀ i d, ∃ r : ℝ, q A h i d = r := by
    intro i d
    unfold q
    split
    · exact hA.proj i ⟨h.val * 128 + d.val, by omega⟩
    · exact hA.qr ..
  choose r hr using this
  exact ⟨r, hr⟩

theorem k_real (hA : A.Finite) : ∃ r : Fin 8192 → Fin 256 → ℝ, ∀ j d, k A h j d = r j d := by
  have : ∀ j d, ∃ r : ℝ, k A h j d = r := by
    intro j d
    unfold k
    split
    · exact hA.kv ..
    · exact hA.kr ..
  choose r hr using this
  exact ⟨r, hr⟩

theorem s_real (hA : A.Finite) : ∃ r : Fin 8192 → Fin 8192 → ℝ, ∀ i j, s A h i j = r i j := by
  obtain ⟨c, hc⟩ := scale_real
  obtain ⟨a, ha⟩ := q_real h hA
  obtain ⟨b, hb⟩ := k_real h hA
  refine ⟨fun i j => (∑ d, a i d * b j d) * c, fun i j => ?_⟩
  simp only [s, ha, hb, hc, ← EReal.coe_mul, coe_sum]

theorem v_real (hA : A.Finite) : ∃ r : Fin 8192 → Fin 128 → ℝ, ∀ j e, v A h j e = r j e := by
  choose r hr using hA.kv
  exact ⟨fun j e => r j ⟨h.val * 256 + (128 + e.val), by omega⟩, fun j e => hr ..⟩

theorem g_real (hA : A.Finite) : ∃ r : Fin 8192 → Fin 128 → ℝ, ∀ i e, g A h i e = r i e := by
  choose r hr using hA.dout
  exact ⟨fun i e => r i ⟨h.val * 128 + e.val, by omega⟩, fun i e => hr ..⟩

/-- A row's maximum is a real number: the row's own key is in it. -/
theorem mx_real (hA : A.Finite) (i : Fin 8192) : ∃ r : ℝ, mx A h i = r := by
  obtain ⟨σ, hσ⟩ := s_real h hA
  have hsup : mx A h i = Finset.univ.sup (sm A h i) := rfl
  obtain ⟨j, -, hj⟩ := Finset.exists_mem_eq_sup Finset.univ ⟨i, Finset.mem_univ i⟩ (sm A h i)
  have hi : sm A h i i ≤ mx A h i := hsup ▸ Finset.le_sup (Finset.mem_univ i)
  rw [hsup, hj] at *
  by_cases hji : j ≤ i
  · exact ⟨σ i j, by rw [sm, if_pos hji, hσ]⟩
  · rw [sm, sm, if_pos le_rfl, if_neg hji, hσ] at hi
    exact absurd (le_bot_iff.mp hi) (EReal.coe_ne_bot _)

/-- A row in real numbers: its maximum, its exponentials, zero past the diagonal, and their sum, which is positive. -/
theorem row_real (hA : A.Finite) (i : Fin 8192) : ∃ (σ : Fin 8192 → ℝ) (μ l : ℝ),
    (∀ j, s A h i j = σ j) ∧ mx A h i = μ ∧ 0 < l
      ∧ (∀ j, ex A h i j = ((if j ≤ i then Real.exp (σ j - μ) else 0 : ℝ) : EReal)) ∧ tot A h i = l := by
  obtain ⟨σ, hσ⟩ := s_real h hA
  obtain ⟨μ, hμ⟩ := mx_real h hA i
  have hex : ∀ j, ex A h i j = ((if j ≤ i then Real.exp (σ i j - μ) else 0 : ℝ) : EReal) := by
    intro j
    rw [ex, hμ, sm]
    split
    · rw [hσ, ← EReal.coe_sub, Ideal.exp_coe]
    · rw [EReal.bot_sub, Ideal.exp_bot]; rfl
  refine ⟨σ i, μ, ∑ j, (if j ≤ i then Real.exp (σ i j - μ) else 0), hσ i, hμ, ?_, hex, ?_⟩
  · refine Finset.sum_pos' (fun j _ => ?_) ⟨i, Finset.mem_univ i, ?_⟩
    · split
      · exact (Real.exp_pos _).le
      · exact le_rfl
    · rw [if_pos le_rfl]; exact Real.exp_pos _
  · simp only [tot, hex]; exact coe_sum _

/-- The kernel's weight is the softmax's. -/
theorem wt_eq (hA : A.Finite) (i j : Fin 8192) : wt A h i j = Ideal.div (ex A h i j) (tot A h i) := by
  obtain ⟨σ, μ, l, hs, hm, hl, he, ht⟩ := row_real h hA i
  rw [wt, lse, hm, ht, he, hs, Ideal.log_coe, if_neg (not_le.mpr hl), Ideal.div_coe hl.ne', ← EReal.coe_mul, ← EReal.coe_add,
    ← EReal.coe_sub, Ideal.exp_coe]
  by_cases hij : j ≤ i
  · rw [if_neg (not_lt.mpr hij), if_pos hij, ← sub_sub, Real.exp_sub, Real.exp_log hl, mul_one_div]
  · rw [if_pos (not_le.mp hij), if_neg hij, zero_mul]; rfl

/-- The gradient of the score that the kernel computes is that of the softmax. -/
theorem ds_eq (hA : A.Finite) (i j : Fin 8192) : ds A h i j = dsr A h i j := by
  obtain ⟨c, hc⟩ := scale_real
  obtain ⟨a, ha⟩ := v_real h hA
  obtain ⟨b, hb⟩ := g_real h hA
  obtain ⟨σ, μ, l, hs, hm, hl, he, ht⟩ := row_real h hA i
  have hdp : ∀ j, dp A h i j = ((∑ e, b i e * a j e : ℝ) : EReal) := fun j => by
    simp only [dp, ha, hb, ← EReal.coe_mul, coe_sum]
  have hl2 : l * l ≠ 0 := (mul_pos hl hl).ne'
  rw [ds, wt_eq h hA, dsr]
  simp only [dex, out, ha, hb, he, ht, hdp, hc, Ideal.div_coe hl.ne', ← EReal.coe_mul, Ideal.div_coe hl2, one_mul,
    coe_sum, ← EReal.coe_neg, ← EReal.coe_add, ← EReal.coe_sub]
  have hsum : ∑ e, b i e * ∑ j', a j' e * ((if j' ≤ i then Real.exp (σ j' - μ) else 0) * (1 / l))
      = (∑ j', (∑ e, b i e * a j' e) * (if j' ≤ i then Real.exp (σ j' - μ) else 0)) * (1 / l) := by
    simp only [Finset.mul_sum, Finset.sum_mul]
    rw [Finset.sum_comm]
    exact Finset.sum_congr rfl fun j' _ => Finset.sum_congr rfl fun e _ => by ring
  have hsum' : ∑ j', (∑ e, b i e * a j' e) * (1 / (l * l)) * (if j' ≤ i then Real.exp (σ j' - μ) else 0)
      = (∑ j', (∑ e, b i e * a j' e) * (if j' ≤ i then Real.exp (σ j' - μ) else 0)) * (1 / l) * (1 / l) := by
    rw [Finset.sum_mul, Finset.sum_mul]
    exact Finset.sum_congr rfl fun j' _ => by field_simp
  rw [hsum, hsum']
  generalize (∑ j', (∑ e, b i e * a j' e) * (if j' ≤ i then Real.exp (σ j' - μ) else 0)) = D
  by_cases hij : j ≤ i
  · rw [if_pos hij, if_pos hij]
    congr 1
    ring
  · rw [if_neg hij, if_neg hij]
    simp

end Cert.Attn
-- ==== Proof.Ref.lean ====
/-
  What the reference computes, entry by entry: its operations one after another, each read as the quantity of `Attn` it
  holds, and at the end the two results.
-/
module

public import proofs.«01_k».proof.Proof.Gen.ReferenceIdeal.Read
public import proofs.«01_k».proof.Proof.Attn
public import Idealize.ShloMosaic.Lib.WordCmp

@[expose] public section

set_option maxRecDepth 16384

noncomputable section

namespace Cert.ReferenceIdeal.Grad

open Idealize.ShloMosaic Idealize.ShloMosaic.TcCoe Idealize.SL.Sem
open Cert.ReferenceIdeal Cert.ReferenceIdeal.Gen Cert.ReferenceIdeal.Read
open Cert (Attn.Args)

variable (x0 : FVec Ideal S8192x13312 .f32) (x1 : FVec Ideal S8192x2048 .bf16) (x2 : FVec Ideal S8192x4096 .bf16)
  (x3 : FVec Ideal S8192x128 .bf16) (x4 : FVec Ideal S8192x2048 .f32)

/-- The arguments as tables. -/
def args : Attn.Args where
  proj i c := x0 (ix2 i c)
  qr i c := x1 (ix2 i c)
  kv i c := x2 (ix2 i c)
  kr i c := x3 (ix2 i c)
  dout i c := x4 (ix2 i c)

theorem negInf : Ideal.ofBits FTy.f32 0xFF800000#32 = (⊥ : EReal) := by
  unfold Ideal.ofBits Ideal.ieee
  dsimp only
  rw [if_pos (by decide), if_pos (by decide), if_pos (by decide)]

theorem q_eq (i : Fin 8192) (h : Fin 16) (d : Fin 256) : val_main_v11 (F := Ideal) x0 x1 (ix3 i h d) = Attn.q (args x0 x1 x2 x3 x4) h i d := by
  pointwise [val_main_v11, val_main_v4, val_main_v3, val_main_v6, val_main_v5]
  rfl

theorem k_eq (j : Fin 8192) (h : Fin 16) (d : Fin 256) : val_main_v13 (F := Ideal) x2 x3 (ix3 j h d) = Attn.k (args x0 x1 x2 x3 x4) h j d := by
  pointwise [val_main_v13, val_main_v12, val_main_v9, val_main_v8, val_main_v7, val_main_v2, val_main_v1, val_main_v0]
  rfl

theorem before_eq (i j : Fin 8192) : IntOp.cmpi CmpIPredicate.sge (BitVec.ofNat 32 i.val) (BitVec.ofNat 32 j.val)
    = BitVec.ofBool (decide (j ≤ i)) := by
  rw [WordCmp.cmpi_sge_eq]
  congr 1
  rw [decide_eq_decide, Fin.le_def]
  word_cmp

theorem prod_eq (h : Fin 16) (i j : Fin 8192) : val_main_v16 (F := Ideal) x0 x1 x2 x3 (ix3 h i j) = Attn.s (args x0 x1 x2 x3 x4) h i j := by
  pointwise [val_main_v16, val_main_v15, val_main_cst, val_main_v14]
  simp only [q_eq x0 x1 x2 x3 x4, k_eq x0 x1 x2 x3 x4]
  rfl

theorem mask_eq (h : Fin 16) (i j : Fin 8192) : val_main_v23_1 (F := Ideal) (ix3 h i j) = BitVec.ofBool (decide (j ≤ i)) := by
  pointwise [val_main_v23_1, val_main_v22, val_main_v20, val_main_v21, val_main_v19, val_main_v18, val_main_v17]
  exact before_eq i j

theorem low_eq (h : Fin 16) (i j : Fin 8192) : val_main_call0_v2 (F := Ideal) (ix3 h i j) = (⊥ : EReal) := by
  pointwise [val_main_call0_v2]
  exact negInf

theorem sm_eq (h : Fin 16) (i j : Fin 8192) : val_main_v23_0 (F := Ideal) x0 x1 x2 x3 (ix3 h i j) = Attn.sm (args x0 x1 x2 x3 x4) h i j := by
  rw [val_main_v23_0_apply, mask_eq, low_eq, prod_eq x0 x1 x2 x3 x4, Attn.sm]
  by_cases hij : j ≤ i
  · rw [decide_eq_true hij, if_pos hij]; rfl
  · rw [decide_eq_false hij, if_neg hij]; rfl

theorem mx_eq (h : Fin 16) (i : Fin 8192) : val_main_v24 (F := Ideal) x0 x1 x2 x3 (ix2 h i) = Attn.mx (args x0 x1 x2 x3 x4) h i := by
  pointwise [val_main_v24]
  rw [Attn.mx, show val_main_cst_1 (F := Ideal) (Shape.Idx.first h_S_) = (⊥ : EReal) from negInf]
  simp only [sm_eq x0 x1 x2 x3 x4]

theorem mx'_eq (h : Fin 16) (i : Fin 8192) : val_main_v31 (F := Ideal) x0 x1 x2 x3 (ix2 h i) = Attn.mx (args x0 x1 x2 x3 x4) h i := by
  have e : val_main_v30 (F := Ideal) (ix2 h i) = (⊥ : EReal) := by
    pointwise [val_main_v30]
    exact negInf
  rw [val_main_v31_apply, mx_eq x0 x1 x2 x3 x4, e]
  exact max_bot_left _

theorem ex_eq (h : Fin 16) (i j : Fin 8192) : val_main_v44 (F := Ideal) x0 x1 x2 x3 (ix3 h i j) = Attn.ex (args x0 x1 x2 x3 x4) h i j := by
  have e : val_main_v44 (F := Ideal) x0 x1 x2 x3 (ix3 h i j)
      = Ideal.exp (val_main_v23_0 (F := Ideal) x0 x1 x2 x3 (ix3 h i j) - val_main_v31 (F := Ideal) x0 x1 x2 x3 (ix2 h i)) := by
    pointwise [val_main_v44, val_main_v43, val_main_v42, val_main_v41]
  rw [e, sm_eq x0 x1 x2 x3 x4, mx'_eq x0 x1 x2 x3 x4]
  rfl

theorem tot_eq (h : Fin 16) (i : Fin 8192) : val_main_v45 (F := Ideal) x0 x1 x2 x3 (ix2 h i) = Attn.tot (args x0 x1 x2 x3 x4) h i := by
  have e : val_main_v45 (F := Ideal) x0 x1 x2 x3 (ix2 h i)
      = val_main_cst_9 (F := Ideal) (Shape.Idx.first h_S_) + ∑ j : Fin 8192, val_main_v44 (F := Ideal) x0 x1 x2 x3 (ix3 h i j) := by
    pointwise [val_main_v45]
  rw [e, show val_main_cst_9 (F := Ideal) (Shape.Idx.first h_S_) = (0 : EReal) from Ideal.ofBits_zero_f32, zero_add]
  simp only [ex_eq x0 x1 x2 x3 x4]
  rfl

theorem weight_eq (h : Fin 16) (i j : Fin 8192) : val_main_v48 (F := Ideal) x0 x1 x2 x3 (ix3 h i j)
    = Ideal.div (Attn.ex (args x0 x1 x2 x3 x4) h i j) (Attn.tot (args x0 x1 x2 x3 x4) h i) := by
  have e : val_main_v48 (F := Ideal) x0 x1 x2 x3 (ix3 h i j)
      = Ideal.div (val_main_v44 (F := Ideal) x0 x1 x2 x3 (ix3 h i j)) (val_main_v45 (F := Ideal) x0 x1 x2 x3 (ix2 h i)) := by
    pointwise [val_main_v48, val_main_v47, val_main_v46]
  rw [e, ex_eq x0 x1 x2 x3 x4, tot_eq x0 x1 x2 x3 x4]

theorem dp_eq (h : Fin 16) (i j : Fin 8192) : val_main_v57 (F := Ideal) x2 x4 (ix3 h i j) = Attn.dp (args x0 x1 x2 x3 x4) h i j := by
  pointwise [val_main_v57, val_main_v56, val_main_v55, val_main_v10, val_main_v8, val_main_v7]
  rfl

/-- The part of an exponential's gradient that goes through the row's sum. -/
theorem through_eq (h : Fin 16) (i : Fin 8192) : val_main_v63 (F := Ideal) x0 x1 x2 x3 x4 (ix2 h i)
    = ∑ j, Attn.dp (args x0 x1 x2 x3 x4) h i j
        * Ideal.div 1 (Attn.tot (args x0 x1 x2 x3 x4) h i * Attn.tot (args x0 x1 x2 x3 x4) h i) * Attn.ex (args x0 x1 x2 x3 x4) h i j := by
  have e : val_main_v63 (F := Ideal) x0 x1 x2 x3 x4 (ix2 h i)
      = val_main_cst_11 (F := Ideal) (Shape.Idx.first h_S_) + ∑ j : Fin 8192, val_main_v62 (F := Ideal) x0 x1 x2 x3 x4 (ix3 h i j) := by
    pointwise [val_main_v63]
  have e' : ∀ j : Fin 8192, val_main_v62 (F := Ideal) x0 x1 x2 x3 x4 (ix3 h i j)
      = val_main_v57 (F := Ideal) x2 x4 (ix3 h i j) * val_main_v51 (F := Ideal) x0 x1 x2 x3 (ix3 h i 0)
          * val_main_v44 (F := Ideal) x0 x1 x2 x3 (ix3 h i j) := fun j => by
    pointwise [val_main_v62, val_main_v61, val_main_v60]
  have e'' : val_main_v51 (F := Ideal) x0 x1 x2 x3 (ix3 h i 0)
      = Ideal.div (val_main_v50 (F := Ideal) (ix3 h i 0))
          (val_main_v45 (F := Ideal) x0 x1 x2 x3 (ix2 h i) * val_main_v45 (F := Ideal) x0 x1 x2 x3 (ix2 h i)) := by
    pointwise [val_main_v51, val_main_v49, val_main_v46]
  have one : val_main_v50 (F := Ideal) (ix3 h i 0) = (1 : EReal) := by
    pointwise [val_main_v50]
    exact IdealRules.sign_bit.ideal_onePat .f32
  rw [e, show val_main_cst_11 (F := Ideal) (Shape.Idx.first h_S_) = (0 : EReal) from Ideal.ofBits_zero_f32, zero_add]
  refine Finset.sum_congr rfl fun j _ => ?_
  rw [e', e'', one, dp_eq x0 x1 x2 x3 x4, tot_eq x0 x1 x2 x3 x4, ex_eq x0 x1 x2 x3 x4]

theorem dex_eq (h : Fin 16) (i j : Fin 8192) : val_main_v70 (F := Ideal) x0 x1 x2 x3 x4 (ix3 h i j)
    = Attn.dex (args x0 x1 x2 x3 x4) h i j := by
  have e : val_main_v70 (F := Ideal) x0 x1 x2 x3 x4 (ix3 h i j)
      = Ideal.div (val_main_v57 (F := Ideal) x2 x4 (ix3 h i j)) (val_main_v45 (F := Ideal) x0 x1 x2 x3 (ix2 h i))
          + val_main_v68 (F := Ideal) x0 x1 x2 x3 x4 (ix2 h i) := by
    pointwise [val_main_v70, val_main_v69, val_main_v67, val_main_v66, val_main_v46]
  have e' : val_main_v68 (F := Ideal) x0 x1 x2 x3 x4 (ix2 h i)
      = val_main_cst_12 (F := Ideal) (Shape.Idx.first h_S_) + val_main_v65 (F := Ideal) x0 x1 x2 x3 x4 (ix3 h i 0) := by
    pointwise [val_main_v68]
    rw [Fin.sum_univ_one]
  have e'' : val_main_v65 (F := Ideal) x0 x1 x2 x3 x4 (ix3 h i 0) = -val_main_v63 (F := Ideal) x0 x1 x2 x3 x4 (ix2 h i) := by
    pointwise [val_main_v65, val_main_v64]
  rw [e, e', e'', through_eq, dp_eq x0 x1 x2 x3 x4, tot_eq x0 x1 x2 x3 x4,
    show val_main_cst_12 (F := Ideal) (Shape.Idx.first h_S_) = (0 : EReal) from Ideal.ofBits_zero_f32, zero_add]
  rfl

theorem dsr_eq (h : Fin 16) (i j : Fin 8192) : val_main_v74 (F := Ideal) x0 x1 x2 x3 x4 (ix3 h i j)
    = Attn.dsr (args x0 x1 x2 x3 x4) h i j := by
  have e : val_main_v74 (F := Ideal) x0 x1 x2 x3 x4 (ix3 h i j)
      = val_main_v72 (F := Ideal) x0 x1 x2 x3 x4 (ix3 h i j) * val_main_v73 (F := Ideal) (ix3 h i j) := by
    pointwise [val_main_v74]
  have c : val_main_v73 (F := Ideal) (ix3 h i j) = Attn.scale := by
    pointwise [val_main_v73, val_main_cst_13]
  have z : val_main_call1_v0 (F := Ideal) (ix3 h i j) = (0 : EReal) := by
    pointwise [val_main_call1_v0]
    exact Ideal.ofBits_zero_f32
  have p : val_main_v71 (F := Ideal) x0 x1 x2 x3 x4 (ix3 h i j)
      = val_main_v70 (F := Ideal) x0 x1 x2 x3 x4 (ix3 h i j) * val_main_v44 (F := Ideal) x0 x1 x2 x3 (ix3 h i j) := by
    pointwise [val_main_v71]
  rw [e, c, val_main_v72_apply, mask_eq, z, p, dex_eq, ex_eq x0 x1 x2 x3 x4, Attn.dsr]
  by_cases hij : j ≤ i
  · rw [decide_eq_true hij, if_pos hij]; rfl
  · rw [decide_eq_false hij, if_neg hij]; rfl

/-- The second result: the gradient of the shared half of the keys, a head at a time. -/
theorem dkr_eq (h : Fin 16) (j : Fin 8192) (d : Fin 128) : val_main_v79 (F := Ideal) x0 x1 x2 x3 x4 (ix3 h j d)
    = ∑ i, Attn.dsr (args x0 x1 x2 x3 x4) h i j * Attn.q (args x0 x1 x2 x3 x4) h i ⟨128 + d.val, by omega⟩ := by
  pointwise [val_main_v79, val_main_v78, val_main_v76, val_main_v75]
  simp only [dsr_eq, q_eq x0 x1 x2 x3 x4]

theorem dk_eq (h : Fin 16) (j : Fin 8192) (d : Fin 128) : val_main_v77 (F := Ideal) x0 x1 x2 x3 x4 (ix3 j h d)
    = ∑ i, Attn.dsr (args x0 x1 x2 x3 x4) h i j * Attn.q (args x0 x1 x2 x3 x4) h i ⟨d.val, by omega⟩ := by
  pointwise [val_main_v77, val_main_v76, val_main_v75]
  simp only [dsr_eq, q_eq x0 x1 x2 x3 x4]

theorem dv_eq (h : Fin 16) (j : Fin 8192) (e : Fin 128) : val_main_v59 (F := Ideal) x0 x1 x2 x3 x4 (ix3 j h e)
    = ∑ i, Attn.g (args x0 x1 x2 x3 x4) h i e * Ideal.div (Attn.ex (args x0 x1 x2 x3 x4) h i j) (Attn.tot (args x0 x1 x2 x3 x4) h i) := by
  pointwise [val_main_v59, val_main_v58, val_main_v56, val_main_v55]
  simp only [weight_eq x0 x1 x2 x3 x4]
  rfl

/-- The first result: of a head's 256 lanes the first 128 are the gradient of the key, -/
theorem dkv_key (h : Fin 16) (j : Fin 8192) (d : Fin 128) :
    val_main_v84 (F := Ideal) x0 x1 x2 x3 x4 (ix2 j ⟨h.val * 256 + d.val, by omega⟩)
      = ∑ i, Attn.dsr (args x0 x1 x2 x3 x4) h i j * Attn.q (args x0 x1 x2 x3 x4) h i ⟨d.val, by omega⟩ := by
  have eh : (h.val * 256 + d.val) / 256 = h.val := by omega
  have ed : (h.val * 256 + d.val) % 256 = d.val := by omega
  pointwise [val_main_v84, val_main_v83, val_main_v82, val_main_v81, val_main_v80]
  rw [dif_neg (by omega), dif_pos (by omega),
    show val_main_cst_14 (F := Ideal) (Shape.Idx.first h_S_) = (0 : EReal) from Ideal.ofBits_zero_f32, zero_add, ← dk_eq]
  congr 1
  simp only [eh, ed]

/-- and the last 128 that of the value. -/
theorem dkv_value (h : Fin 16) (j : Fin 8192) (e : Fin 128) :
    val_main_v84 (F := Ideal) x0 x1 x2 x3 x4 (ix2 j ⟨h.val * 256 + (128 + e.val), by omega⟩)
      = ∑ i, Attn.g (args x0 x1 x2 x3 x4) h i e
          * Ideal.div (Attn.ex (args x0 x1 x2 x3 x4) h i j) (Attn.tot (args x0 x1 x2 x3 x4) h i) := by
  have eh : (h.val * 256 + (128 + e.val)) / 256 = h.val := by omega
  have ed : (h.val * 256 + (128 + e.val)) % 256 - 128 = e.val := by omega
  pointwise [val_main_v84, val_main_v83, val_main_v82, val_main_v81, val_main_v80]
  rw [dif_pos (by omega), dif_neg (by omega),
    show val_main_cst_15 (F := Ideal) (Shape.Idx.first h_S_) = (0 : EReal) from Ideal.ofBits_zero_f32, add_zero, ← dv_eq]
  congr 1
  simp only [eh, ed]

end Cert.ReferenceIdeal.Grad
-- ==== Proof.Host.lean ====
/-
  The two arrays the host prepares for the kernel: the attention's output and the rows' log-sum-exp.
-/
module

public import proofs.«01_k».proof.Proof.Gen.KernelIdeal.Frame.Runs
public import proofs.«01_k».proof.Proof.Ref

@[expose] public section

set_option maxRecDepth 16384

noncomputable section

namespace Cert.KernelIdeal.Host

open Idealize.ShloMosaic Idealize.ShloMosaic.TcCoe Idealize.SL.Sem
open Cert.KernelIdeal Cert.KernelIdeal.Gen
open Cert.ReferenceIdeal.Read Cert.ReferenceIdeal.Grad

variable (m : (ℓ : Loc nD τ sig) → Buf (Elt Ideal) ℓ) (c : Dev nD)

/-- The arguments as launched. -/
abbrev a0 : FVec Ideal S8192x13312 .f32 := m ((c : Thread nD τ).loc main_arg0)
abbrev a1 : FVec Ideal S8192x2048 .bf16 := m ((c : Thread nD τ).loc main_arg1)
abbrev a2 : FVec Ideal S8192x4096 .bf16 := m ((c : Thread nD τ).loc main_arg2)
abbrev a3 : FVec Ideal S8192x128 .bf16 := m ((c : Thread nD τ).loc main_arg3)
abbrev a4 : FVec Ideal S8192x2048 .f32 := m ((c : Thread nD τ).loc main_arg4)

/-- What the call reads, as tables. -/
abbrev A : Attn.Args := args (a0 m c) (a1 m c) (a2 m c) (a3 m c) (a4 m c)

set_option maxHeartbeats 2000000 in
/-- The output array is the reference's own output. -/
theorem V_out : V m c main_v37 = val_main_v54 (F := Ideal) (a0 m c) (a1 m c) (a2 m c) (a3 m c) := by
  simp only [V, hostOps0, hostOps0_1, hostOps0_2, List.flatten_cons, List.flatten_nil, List.append_nil, List.cons_append,
    List.nil_append, StableHlo.TRef.unary, StableHlo.TRef.ternary, StableHlo.TRef.toBuf, StableHlo.TRef.ofBuf, cast_eq]
  after_results_simp
  rfl

theorem out_eq (h : Fin 16) (i : Fin 8192) (e : Fin 128) :
    V m c main_v37 (ix2 i ⟨h.val * 128 + e.val, by omega⟩) = Attn.out (A m c) h i e := by
  have r : val_main_v54 (F := Ideal) (a0 m c) (a1 m c) (a2 m c) (a3 m c) (ix2 i ⟨h.val * 128 + e.val, by omega⟩)
      = val_main_v53 (F := Ideal) (a0 m c) (a1 m c) (a2 m c) (a3 m c) (ix3 i h e) := by
    pointwise [val_main_v54]
  rw [V_out, r]
  pointwise [val_main_v53, val_main_v52, val_main_v10, val_main_v8, val_main_v7]
  simp only [weight_eq (a0 m c) (a1 m c) (a2 m c) (a3 m c) (a4 m c)]
  rfl

/-- The rows' maxima, a column for each head. -/
def maxes (x : FVec Ideal S16x8192x8192 .f32) : FVec Ideal S16x8192x1 .f32 :=
  broadcastInDim S16x8192x1 ![0, 1] bcast_S16x8192_S16x8192x1_0_1
    (Host.reduce FloatOps.maximumf x (constant S_ .f32 0xFF800000#32) reducesTo_S16x8192x8192_S16x8192_d2 h_S_)

/-- The exponentials above them, -/
def exps (x : FVec Ideal S16x8192x8192 .f32) : FVec Ideal S16x8192x8192 .f32 :=
  Host.exp (subf x (broadcastInDim S16x8192x8192 ![0, 1, 2] bcast_S16x8192x1_S16x8192x8192_0_1_2 (maxes x)))

/-- and their sums. -/
def sums (x : FVec Ideal S16x8192x8192 .f32) : FVec Ideal S16x8192x1 .f32 :=
  broadcastInDim S16x8192x1 ![0, 1] bcast_S16x8192_S16x8192x1_0_1
    (Host.reduceAdd (exps x) (constant S_ .f32 0x00000000#32) reducesTo_S16x8192x8192_S16x8192_d2 h_S_)

set_option maxHeartbeats 2000000 in
theorem V_lse : V m c main_v46 = addf (maxes (val_main_v23_0 (F := Ideal) (a0 m c) (a1 m c) (a2 m c) (a3 m c)))
    (Host.log (sums (val_main_v23_0 (F := Ideal) (a0 m c) (a1 m c) (a2 m c) (a3 m c)))) := by
  simp only [V, hostOps0, hostOps0_1, hostOps0_2, List.flatten_cons, List.flatten_nil, List.append_nil, List.cons_append,
    List.nil_append, StableHlo.TRef.unary, StableHlo.TRef.ternary, StableHlo.TRef.toBuf, StableHlo.TRef.ofBuf, cast_eq]
  after_results_simp
  rfl

theorem maxes_eq (h : Fin 16) (i : Fin 8192) :
    maxes (val_main_v23_0 (F := Ideal) (a0 m c) (a1 m c) (a2 m c) (a3 m c)) (ix3 h i 0) = Attn.mx (A m c) h i := by
  generalize hx : val_main_v23_0 (F := Ideal) (a0 m c) (a1 m c) (a2 m c) (a3 m c) = x
  have r : maxes x (ix3 h i 0) = Finset.univ.fold max (Ideal.ofBits .f32 0xFF800000#32) fun j => x (ix3 h i j) := by
    pointwise [maxes]
  rw [r, negInf, Attn.mx, ← hx]
  simp only [sm_eq (a0 m c) (a1 m c) (a2 m c) (a3 m c) (a4 m c)]

theorem exps_eq (h : Fin 16) (i j : Fin 8192) :
    exps (val_main_v23_0 (F := Ideal) (a0 m c) (a1 m c) (a2 m c) (a3 m c)) (ix3 h i j) = Attn.ex (A m c) h i j := by
  have r : ∀ x, exps x (ix3 h i j) = Ideal.exp (x (ix3 h i j) - maxes x (ix3 h i 0)) := fun x => by
    pointwise [exps]
  rw [r, maxes_eq, sm_eq (a0 m c) (a1 m c) (a2 m c) (a3 m c) (a4 m c)]
  rfl

theorem sums_eq (h : Fin 16) (i : Fin 8192) :
    sums (val_main_v23_0 (F := Ideal) (a0 m c) (a1 m c) (a2 m c) (a3 m c)) (ix3 h i 0) = Attn.tot (A m c) h i := by
  have r : ∀ x, sums x (ix3 h i 0) = ∑ j : Fin 8192, exps x (ix3 h i j) := fun x => by
    pointwise [sums]
  rw [r]
  simp only [exps_eq]
  rfl

theorem lse_eq (h : Fin 16) (i : Fin 8192) : V m c main_v46 (ix3 h i 0) = Attn.lse (A m c) h i := by
  have r : ∀ x y : FVec Ideal S16x8192x1 .f32, addf x (Host.log y) (ix3 h i 0) = x (ix3 h i 0) + Ideal.log (y (ix3 h i 0)) := fun x y => by
    pointwise []
  rw [V_lse, r, maxes_eq, sums_eq]
  rfl

end Cert.KernelIdeal.Host
-- ==== Proof.Blocks.lean ====
/-
  A tile of the gradient is a part of the whole: what a grid point computes of its blocks, said of the arrays.
-/
module

public import proofs.«01_k».proof.Proof.Grid
public import proofs.«01_k».proof.Proof.Tile
public import proofs.«01_k».proof.Proof.Host

@[expose] public section

set_option maxRecDepth 16384
set_option maxHeartbeats 2000000

noncomputable section

namespace Cert.KernelIdeal.Grid

open Idealize.ShloMosaic Idealize.ShloMosaic.TcCoe Idealize.SL.Sem Idealize.ShloMosaic.Tactic
open Cert.KernelIdeal Cert.KernelIdeal.Gen Cert.KernelIdeal.Point

section Windows

variable {F : FTy → Type} [FloatOps F] [Named F]
variable (t : Fin cfg0.N)

/-- What a window's block holds of an array `X`. -/
theorem blk_q0 (X : Vec F S8192x13312 .f32) (r : Fin 1024) (d : Fin 128) :
    ((cfg0.win 0).blk t).view.read (Elt F) X (ix2 r d) = X (ix2 (gl (qb t) r) ⟨(hd t).val * 128 + d.val, by omega⟩) := by
  blk_ext [idx_q0 t, gl, qb, hd]

theorem blk_q1 (X : Vec F S8192x2048 .bf16) (r : Fin 1024) (d : Fin 128) :
    ((cfg0.win 1).blk t).view.read (Elt F) X (ix2 r d) = X (ix2 (gl (qb t) r) ⟨(hd t).val * 128 + d.val, by omega⟩) := by
  blk_ext [idx_q1 t, gl, qb, hd]

theorem blk_kv (X : Vec F S8192x4096 .bf16) (j : Fin 1024) (d : Fin 256) :
    ((cfg0.win 2).blk t).view.read (Elt F) X (ix2 j d) = X (ix2 (gl (kb t) j) ⟨(hd t).val * 256 + d.val, by omega⟩) := by
  blk_ext [idx_kv t, gl, kb, hd]

theorem blk_kr (X : Vec F S8192x128 .bf16) (j : Fin 1024) (d : Fin 128) :
    ((cfg0.win 3).blk t).view.read (Elt F) X (ix2 j d) = X (ix2 (gl (kb t) j) d) := by
  blk_ext [idx_kr t, gl, kb]

theorem blk_g (X : Vec F S8192x2048 .f32) (r : Fin 1024) (d : Fin 128) :
    ((cfg0.win 4).blk t).view.read (Elt F) X (ix2 r d) = X (ix2 (gl (qb t) r) ⟨(hd t).val * 128 + d.val, by omega⟩) := by
  blk_ext [idx_g t, gl, qb, hd]

theorem blk_o (X : Vec F S8192x2048 .f32) (r : Fin 1024) (d : Fin 128) :
    ((cfg0.win 5).blk t).view.read (Elt F) X (ix2 r d) = X (ix2 (gl (qb t) r) ⟨(hd t).val * 128 + d.val, by omega⟩) := by
  blk_ext [idx_o t, gl, qb, hd]

theorem blk_l (X : Vec F S16x8192x1 .f32) (r : Fin 1024) :
    ((cfg0.win 6).blk t).view.read (Elt F) X (ix3 0 r 0) = X (ix3 (hd t) (gl (qb t) r) 0) := by
  blk_ext [idx_l t, gl, qb, hd]

/-- Where an output's block lies in its array. -/
theorem emb_r0 (j : Fin 1024) (d : Fin 256) :
    ((cfg0.win 7).blk t).view.emb (ix2 j d) = ix2 (gl (kb t) j) ⟨(hd t).val * 256 + d.val, by omega⟩ := by
  blk_ext [idx_r0 t, gl, kb, hd]

theorem emb_r1 (z : Fin 1) (j : Fin 1024) (d : Fin 128) :
    ((cfg0.win 8).blk t).view.emb (ix3 z j d) = ix3 (hd t) (gl (kb t) j) d := by
  blk_ext [idx_r1 t, gl, kb, hd]

end Windows

variable (m : (ℓ : Loc nD τ sig) → Buf (Elt Ideal) ℓ) (c : Dev nD) (t : Fin cfg0.N)

/-- The tables of what the call reads. -/
abbrev A (m : (ℓ : Loc nD τ sig) → Buf (Elt Ideal) ℓ) (c : Dev nD) : Attn.Args := Cert.KernelIdeal.Host.A m c

/-- So the inputs at a point are entries of the tables. -/
theorem read_q0 (r : Fin 1024) (d : Fin 128) :
    (insAt m c t).q0 (ix2 r d) = (A m c).proj (gl (qb t) r) ⟨(hd t).val * 128 + d.val, by omega⟩ :=
  (blk_q0 t (V m c main_arg0) r d).trans (congrFun (V_main_arg0 m c) _)

theorem read_q1 (r : Fin 1024) (d : Fin 128) :
    (insAt m c t).q1 (ix2 r d) = (A m c).qr (gl (qb t) r) ⟨(hd t).val * 128 + d.val, by omega⟩ :=
  (blk_q1 t (V m c main_arg1) r d).trans (congrFun (V_main_arg1 m c) _)

theorem read_kv (j : Fin 1024) (d : Fin 256) :
    (insAt m c t).kv (ix2 j d) = (A m c).kv (gl (kb t) j) ⟨(hd t).val * 256 + d.val, by omega⟩ :=
  (blk_kv t (V m c main_arg2) j d).trans (congrFun (V_main_arg2 m c) _)

theorem read_kr (j : Fin 1024) (d : Fin 128) : (insAt m c t).kr (ix2 j d) = (A m c).kr (gl (kb t) j) d :=
  (blk_kr t (V m c main_arg3) j d).trans (congrFun (V_main_arg3 m c) _)

theorem read_g (r : Fin 1024) (e : Fin 128) : (insAt m c t).g (ix2 r e) = Attn.g (A m c) (hd t) (gl (qb t) r) e :=
  (blk_g t (V m c main_arg4) r e).trans (congrFun (V_main_arg4 m c) _)

theorem read_o (r : Fin 1024) (e : Fin 128) : (insAt m c t).o (ix2 r e) = Attn.out (A m c) (hd t) (gl (qb t) r) e :=
  (blk_o t (V m c main_v37) r e).trans (Host.out_eq m c _ _ _)

theorem read_l (r : Fin 1024) : (insAt m c t).l (ix3 0 r 0) = Attn.lse (A m c) (hd t) (gl (qb t) r) :=
  (blk_l t (V m c main_v46) r).trans (Host.lse_eq m c _ _)

/-- A query's and a key's lanes, -/
theorem lanesQ_eq (r : Fin 1024) (d : Fin 256) :
    Tile.lanesQ (insAt m c t).q0 (insAt m c t).q1 r d = Attn.q (A m c) (hd t) (gl (qb t) r) d := by
  rw [Tile.lanesQ, Attn.q]
  split
  · exact read_q0 m c t r _
  · exact read_q1 m c t r _

theorem lanesK_eq (j : Fin 1024) (d : Fin 256) :
    Tile.lanesK (insAt m c t).kv (insAt m c t).kr j d = Attn.k (A m c) (hd t) (gl (kb t) j) d := by
  rw [Tile.lanesK, Attn.k]
  split
  · exact read_kv m c t j _
  · exact read_kr m c t j _

/-- the weight of a pair: masked where the key is after the query, which on the diagonal the rows of the tile tell, and
    which below it never happens; -/
theorem wgt_eq (b : Bool) (hb : b = true ↔ qb t = kb t) (hle : kb t ≤ qb t) (r j : Fin 1024) :
    Tile.wgt (insAt m c t).q0 (insAt m c t).q1 (insAt m c t).kv (insAt m c t).kr (insAt m c t).l b r j
      = Attn.wt (A m c) (hd t) (gl (qb t) r) (gl (kb t) j) := by
  have hm : (b = true ∧ r.val < j.val) ↔ gl (qb t) r < gl (kb t) j := by
    rw [hb, Fin.ext_iff]
    show _ ↔ (qb t).val * 1024 + r.val < (kb t).val * 1024 + j.val
    have := Fin.le_def.mp hle
    omega
  rw [Tile.wgt, Attn.wt, if_congr hm rfl rfl, Attn.s, read_l]
  simp only [lanesQ_eq, lanesK_eq]

/-- the gradient of its score; -/
theorem dsc_eq (b : Bool) (hb : b = true ↔ qb t = kb t) (hle : kb t ≤ qb t) (r j : Fin 1024) :
    Tile.dsc (insAt m c t).q0 (insAt m c t).q1 (insAt m c t).kv (insAt m c t).kr (insAt m c t).g (insAt m c t).o
        (insAt m c t).l b r j
      = Attn.ds (A m c) (hd t) (gl (qb t) r) (gl (kb t) j) := by
  rw [Tile.dsc, Attn.ds, wgt_eq m c t b hb hle, Attn.dp]
  simp only [read_g, read_o, read_kv]
  rfl

/-- and what a query adds to the gradients of a value and of a key. -/
theorem termV_eq (b : Bool) (hb : b = true ↔ qb t = kb t) (hle : kb t ≤ qb t) (j : Fin 1024) (e : Fin 128) (r : Fin 1024) :
    Tile.termV (insAt m c t).q0 (insAt m c t).q1 (insAt m c t).kv (insAt m c t).kr (insAt m c t).g (insAt m c t).l b j e r
      = Attn.wt (A m c) (hd t) (gl (qb t) r) (gl (kb t) j) * Attn.g (A m c) (hd t) (gl (qb t) r) e := by
  rw [Tile.termV, wgt_eq m c t b hb hle, read_g]

theorem termK_eq (b : Bool) (hb : b = true ↔ qb t = kb t) (hle : kb t ≤ qb t) (j : Fin 1024) (d : Fin 256) (r : Fin 1024) :
    Tile.termK (insAt m c t).q0 (insAt m c t).q1 (insAt m c t).kv (insAt m c t).kr (insAt m c t).g (insAt m c t).o
        (insAt m c t).l b j d r
      = Attn.ds (A m c) (hd t) (gl (qb t) r) (gl (kb t) j) * Attn.q (A m c) (hd t) (gl (qb t) r) d := by
  rw [Tile.termK, dsc_eq m c t b hb hle, lanesQ_eq]

end Cert.KernelIdeal.Grid

end
-- ==== Proof.Payload.lean ====
/-
  What the body of the kernel computes, entry by entry.

  At a point the body goes through the 1024 queries 256 at a time, and of each 256 it adds one product to the value
  accumulator and one to the key accumulator. Here each of those sixteen sums is read at an entry: the accumulator as it
  was, and the 256 queries' terms of `Tile`. Below the diagonal all 1024 keys are taken; on it the n-th 256 queries
  take the first 256 n keys, and a mask removes the pairs past the diagonal.
-/
module

public import proofs.«01_k».proof.Proof.Tile

@[expose] public section

set_option maxRecDepth 16384
set_option maxHeartbeats 1000000

noncomputable section

namespace Cert.KernelIdeal.Payload

open Idealize.ShloMosaic Idealize.ShloMosaic.TcCoe Idealize.SL.Sem
open Cert.KernelIdeal Cert.KernelIdeal.Gen
open Tile

variable {x0 : FVec Ideal S1024x128 .f32} {x1 : FVec Ideal S1024x128 .bf16} {x2 : FVec Ideal S1024x256 .bf16}
  {x3 : FVec Ideal S1024x128 .bf16} {x4 x5 : FVec Ideal S1024x128 .f32} {x6 : FVec Ideal S1x1024x1 .f32}

/-- The loads of 256 queries' rows: the gradient of the output, the output, the log-sum-exp. -/
structure Rows (x4 x5 : FVec Ideal S1024x128 .f32) (x6 : FVec Ideal S1x1024x1 .f32) (row : Fin 256 → Fin 1024)
    (g o : Vec Ideal S256x128 .f32) (l : Vec Ideal S1x256x1 .f32) : Prop where
  g : ∀ r e, g (ix2 r e) = x4 (ix2 (row r) e)
  o : ∀ r e, o (ix2 r e) = x5 (ix2 (row r) e)
  l : ∀ r, l (ix3 0 r 0) = x6 (ix3 0 (row r) 0)

/-- The first half of the packed key and value, as it is loaded; -/
abbrev KeyHalf (x2 : FVec Ideal S1024x256 .bf16) (w : Vec Ideal S1024x128 .bf16) : Prop :=
  ∀ (j : Fin 1024) (d : Fin 128), w (ix2 j d) = x2 (ix2 j ⟨d.val, by omega⟩)

/-- the second, the first `n` keys of it. -/
abbrev ValueHalf (x2 : FVec Ideal S1024x256 .bf16) (n : Nat) (hn : n ≤ 1024) (w : FVec Ideal (⟨2, ![n, 128]⟩ : Shape) .bf16) : Prop :=
  ∀ (j : Fin n) (e : Fin 128), w (ix2 j e) = x2 (ix2 ⟨j.val, by omega⟩ ⟨128 + e.val, by omega⟩)

theorem query_off (r : Fin 1024) (d : Fin 256) : k0_pay27 (F := Ideal) x0 x1 (ix2 r d) = lanesQ x0 x1 r d := by
  pointwise [k0_pay27, lanesQ]

theorem query_diag (r : Fin 1024) (d : Fin 256) : k0_pay8 (F := Ideal) x0 x1 (ix2 r d) = lanesQ x0 x1 r d := by
  pointwise [k0_pay8, lanesQ]

variable {w : Vec Ideal S1024x128 .bf16}

theorem key_off (hw : KeyHalf x2 w) (j : Fin 1024) (d : Fin 256) : k0_pay28 w x3 (ix2 j d) = lanesK x2 x3 j d := by
  pointwise [k0_pay28, lanesK, hw]

theorem key_diag (hw : KeyHalf x2 w) (j : Fin 1024) (d : Fin 256) : k0_pay9 w x3 (ix2 j d) = lanesK x2 x3 j d := by
  pointwise [k0_pay9, lanesK, hw]

theorem wgt_false (r j : Fin 1024) : wgt x0 x1 x2 x3 x6 false r j
    = Ideal.exp ((∑ d : Fin 256, lanesQ x0 x1 r d * lanesK x2 x3 j d) * scale - x6 (ix3 0 r 0)) := by
  rw [wgt, if_neg (by simp)]

theorem wgt_true (r j : Fin 1024) : wgt x0 x1 x2 x3 x6 true r j
    = if r.val < j.val then 0 else Ideal.exp ((∑ d : Fin 256, lanesQ x0 x1 r d * lanesK x2 x3 j d) * scale - x6 (ix3 0 r 0)) := by
  simp only [wgt, true_and]

variable {g o : Vec Ideal S256x128 .f32} {l : Vec Ideal S1x256x1 .f32}

/-! ## Below the diagonal -/

theorem wgt_off0 (hw : KeyHalf x2 w) (H : Rows x4 x5 x6 (fun r => ⟨r.val, by omega⟩) g o l) (r : Fin 256) (j : Fin 1024) :
    k0_pay29 x0 x1 w x3 l (ix2 r j) = wgt x0 x1 x2 x3 x6 false ⟨r.val, by omega⟩ j := by
  pointwise [k0_pay29]
  simp only [query_off, key_off hw, H.l, wgt_false]

theorem wgt_off1 (hw : KeyHalf x2 w) (H : Rows x4 x5 x6 (fun r => ⟨256 + r.val, by omega⟩) g o l) (r : Fin 256) (j : Fin 1024) :
    k0_pay34 (k0_pay27 x0 x1) (k0_pay28 w x3) l (ix2 r j) = wgt x0 x1 x2 x3 x6 false ⟨256 + r.val, by omega⟩ j := by
  pointwise [k0_pay34]
  simp only [query_off, key_off hw, H.l, wgt_false]

theorem wgt_off2 (hw : KeyHalf x2 w) (H : Rows x4 x5 x6 (fun r => ⟨512 + r.val, by omega⟩) g o l) (r : Fin 256) (j : Fin 1024) :
    k0_pay38 (k0_pay27 x0 x1) (k0_pay28 w x3) l (ix2 r j) = wgt x0 x1 x2 x3 x6 false ⟨512 + r.val, by omega⟩ j := by
  pointwise [k0_pay38]
  simp only [query_off, key_off hw, H.l, wgt_false]

theorem wgt_off3 (hw : KeyHalf x2 w) (H : Rows x4 x5 x6 (fun r => ⟨768 + r.val, by omega⟩) g o l) (r : Fin 256) (j : Fin 1024) :
    k0_pay43 (k0_pay27 x0 x1) (k0_pay28 w x3) l (ix2 r j) = wgt x0 x1 x2 x3 x6 false ⟨768 + r.val, by omega⟩ j := by
  pointwise [k0_pay43]
  simp only [query_off, key_off hw, H.l, wgt_false]

variable {a : Vec Ideal S1024x128 .f32} {b : Vec Ideal S1024x256 .f32} {u : Vec Ideal S1024x128 .bf16}

theorem value_off0 (hw : KeyHalf x2 w) (H : Rows x4 x5 x6 (fun r => ⟨r.val, by omega⟩) g o l) (j : Fin 1024) (e : Fin 128) :
    k0_pay31 x0 x1 w x3 l g a (ix2 j e)
      = a (ix2 j e) + ∑ x : Fin 256, termV x0 x1 x2 x3 x4 x6 false j e ⟨x.val, by omega⟩ := by
  pointwise [k0_pay31]
  simp only [wgt_off0 hw H, H.g, termV]

theorem value_off1 (hw : KeyHalf x2 w) (H : Rows x4 x5 x6 (fun r => ⟨256 + r.val, by omega⟩) g o l) (j : Fin 1024) (e : Fin 128) :
    k0_pay36 (k0_pay27 x0 x1) (k0_pay28 w x3) l g a (ix2 j e)
      = a (ix2 j e) + ∑ x : Fin 256, termV x0 x1 x2 x3 x4 x6 false j e ⟨256 + x.val, by omega⟩ := by
  pointwise [k0_pay36]
  simp only [wgt_off1 hw H, H.g, termV]

theorem value_off2 (hw : KeyHalf x2 w) (H : Rows x4 x5 x6 (fun r => ⟨512 + r.val, by omega⟩) g o l) (j : Fin 1024) (e : Fin 128) :
    k0_pay41 (k0_pay40 (k0_pay27 x0 x1) (k0_pay28 w x3) l g a) (ix2 j e)
      = a (ix2 j e) + ∑ x : Fin 256, termV x0 x1 x2 x3 x4 x6 false j e ⟨512 + x.val, by omega⟩ := by
  pointwise [k0_pay41, k0_pay40]
  simp only [wgt_off2 hw H, H.g, termV]

theorem value_off3 (hw : KeyHalf x2 w) (H : Rows x4 x5 x6 (fun r => ⟨768 + r.val, by omega⟩) g o l) (j : Fin 1024) (e : Fin 128) :
    k0_pay4 a (k0_pay45 (k0_pay27 x0 x1) (k0_pay28 w x3) l) (k0_pay46 g) (ix2 j e)
      = a (ix2 j e) + ∑ x : Fin 256, termV x0 x1 x2 x3 x4 x6 false j e ⟨768 + x.val, by omega⟩ := by
  pointwise [k0_pay4, k0_pay45, k0_pay46]
  simp only [wgt_off3 hw H, H.g, termV]

theorem key_off0 (hw : KeyHalf x2 w) (hu : ValueHalf x2 1024 le_rfl u) (H : Rows x4 x5 x6 (fun r => ⟨r.val, by omega⟩) g o l)
    (j : Fin 1024) (d : Fin 256) :
    k0_pay33 (k0_pay27 x0 x1) (k0_pay29 x0 x1 w x3 l) (k0_pay30 g o) (k0_pay32 g u) b (ix2 j d)
      = b (ix2 j d) + ∑ x : Fin 256, termK x0 x1 x2 x3 x4 x5 x6 false j d ⟨x.val, by omega⟩ := by
  pointwise [k0_pay33, k0_pay30, k0_pay32]
  simp only [wgt_off0 hw H, query_off, H.g, H.o, hu _ _, termK, dsc]

theorem key_off1 (hw : KeyHalf x2 w) (hu : ValueHalf x2 1024 le_rfl u) (H : Rows x4 x5 x6 (fun r => ⟨256 + r.val, by omega⟩) g o l)
    (j : Fin 1024) (d : Fin 256) :
    k0_pay37 (k0_pay27 x0 x1) (k0_pay34 (k0_pay27 x0 x1) (k0_pay28 w x3) l) g (k0_pay35 g o) u b (ix2 j d)
      = b (ix2 j d) + ∑ x : Fin 256, termK x0 x1 x2 x3 x4 x5 x6 false j d ⟨256 + x.val, by omega⟩ := by
  pointwise [k0_pay37, k0_pay35]
  simp only [wgt_off1 hw H, query_off, H.g, H.o, hu _ _, termK, dsc]

theorem key_off2 (hw : KeyHalf x2 w) (hu : ValueHalf x2 1024 le_rfl u) (H : Rows x4 x5 x6 (fun r => ⟨512 + r.val, by omega⟩) g o l)
    (j : Fin 1024) (d : Fin 256) :
    k0_pay42 (k0_pay27 x0 x1) (k0_pay38 (k0_pay27 x0 x1) (k0_pay28 w x3) l) g (k0_pay39 g o) u b (ix2 j d)
      = b (ix2 j d) + ∑ x : Fin 256, termK x0 x1 x2 x3 x4 x5 x6 false j d ⟨512 + x.val, by omega⟩ := by
  pointwise [k0_pay42, k0_pay39]
  simp only [wgt_off2 hw H, query_off, H.g, H.o, hu _ _, termK, dsc]

theorem key_off3 (hw : KeyHalf x2 w) (hu : ValueHalf x2 1024 le_rfl u) (H : Rows x4 x5 x6 (fun r => ⟨768 + r.val, by omega⟩) g o l)
    (j : Fin 1024) (d : Fin 256) :
    k0_pay5 (k0_pay27 x0 x1) (k0_pay43 (k0_pay27 x0 x1) (k0_pay28 w x3) l) g (k0_pay44 g o) u b (ix2 j d)
      = b (ix2 j d) + ∑ x : Fin 256, termK x0 x1 x2 x3 x4 x5 x6 false j d ⟨768 + x.val, by omega⟩ := by
  pointwise [k0_pay5, k0_pay44]
  simp only [wgt_off3 hw H, query_off, H.g, H.o, hu _ _, termK, dsc]

/-! ## On the diagonal -/

theorem wgt_diag0 (hw : KeyHalf x2 w) (H : Rows x4 x5 x6 (fun r => ⟨r.val, by omega⟩) g o l) (r : Fin 256) (j : Fin 256) :
    k0_pay10 x0 x1 w x3 l (ix2 r j) = wgt x0 x1 x2 x3 x6 true ⟨r.val, by omega⟩ ⟨j.val, by omega⟩ := by
  pointwise [k0_pay10]
  refine (exp_masked 0 (by omega) r.val (by omega) j.val (by omega) _ _).trans ?_
  simp only [query_diag, key_diag hw, H.l, wgt_true, Nat.zero_add]

theorem wgt_diag1 (hw : KeyHalf x2 w) (H : Rows x4 x5 x6 (fun r => ⟨256 + r.val, by omega⟩) g o l) (r : Fin 256) (j : Fin 512) :
    k0_pay15 (k0_pay8 x0 x1) (k0_pay9 w x3) l (ix2 r j) = wgt x0 x1 x2 x3 x6 true ⟨256 + r.val, by omega⟩ ⟨j.val, by omega⟩ := by
  pointwise [k0_pay15]
  refine (exp_masked 256 (by omega) r.val (by omega) j.val (by omega) _ _).trans ?_
  simp only [query_diag, key_diag hw, H.l, wgt_true]

theorem wgt_diag2 (hw : KeyHalf x2 w) (H : Rows x4 x5 x6 (fun r => ⟨512 + r.val, by omega⟩) g o l) (r : Fin 256) (j : Fin 768) :
    k0_pay21 (k0_pay18 (k0_pay8 x0 x1) (k0_pay9 w x3)) k0_pay19 k0_pay20 l (ix2 r j)
      = wgt x0 x1 x2 x3 x6 true ⟨512 + r.val, by omega⟩ ⟨j.val, by omega⟩ := by
  pointwise [k0_pay21, k0_pay18, k0_pay19, k0_pay20]
  refine (exp_masked 512 (by omega) r.val (by omega) j.val (by omega) _ _).trans ?_
  simp only [query_diag, key_diag hw, H.l, wgt_true]

theorem wgt_diag3 (hw : KeyHalf x2 w) (H : Rows x4 x5 x6 (fun r => ⟨768 + r.val, by omega⟩) g o l) (r : Fin 256) (j : Fin 1024) :
    k0_pay24 (k0_pay8 x0 x1) (k0_pay9 w x3) l (ix2 r j) = wgt x0 x1 x2 x3 x6 true ⟨768 + r.val, by omega⟩ j := by
  pointwise [k0_pay24]
  refine (exp_masked 768 (by omega) r.val (by omega) j.val (by omega) _ _).trans ?_
  simp only [query_diag, key_diag hw, H.l, wgt_true]

theorem value_diag0 (hw : KeyHalf x2 w) (H : Rows x4 x5 x6 (fun r => ⟨r.val, by omega⟩) g o l) (a : Vec Ideal S256x128 .f32)
    (j : Fin 256) (e : Fin 128) :
    k0_pay13 (k0_pay12 x0 x1 w x3 l g a) (ix2 j e)
      = a (ix2 j e) + ∑ x : Fin 256, termV x0 x1 x2 x3 x4 x6 true ⟨j.val, by omega⟩ e ⟨x.val, by omega⟩ := by
  pointwise [k0_pay13, k0_pay12]
  simp only [wgt_diag0 hw H, H.g, termV]

theorem value_diag1 (hw : KeyHalf x2 w) (H : Rows x4 x5 x6 (fun r => ⟨256 + r.val, by omega⟩) g o l) (a : Vec Ideal S512x128 .f32)
    (j : Fin 512) (e : Fin 128) :
    k0_pay16 (k0_pay15 (k0_pay8 x0 x1) (k0_pay9 w x3) l) g a (ix2 j e)
      = a (ix2 j e) + ∑ x : Fin 256, termV x0 x1 x2 x3 x4 x6 true ⟨j.val, by omega⟩ e ⟨256 + x.val, by omega⟩ := by
  pointwise [k0_pay16]
  simp only [wgt_diag1 hw H, H.g, termV]

theorem value_diag2 (hw : KeyHalf x2 w) (H : Rows x4 x5 x6 (fun r => ⟨512 + r.val, by omega⟩) g o l) (a : Vec Ideal S768x128 .f32)
    (j : Fin 768) (e : Fin 128) :
    k0_pay22 (k0_pay18 (k0_pay8 x0 x1) (k0_pay9 w x3)) k0_pay19 k0_pay20 l g a (ix2 j e)
      = a (ix2 j e) + ∑ x : Fin 256, termV x0 x1 x2 x3 x4 x6 true ⟨j.val, by omega⟩ e ⟨512 + x.val, by omega⟩ := by
  pointwise [k0_pay22]
  simp only [wgt_diag2 hw H, H.g, termV]

theorem value_diag3 (hw : KeyHalf x2 w) (H : Rows x4 x5 x6 (fun r => ⟨768 + r.val, by omega⟩) g o l) (j : Fin 1024) (e : Fin 128) :
    k0_pay25 (k0_pay8 x0 x1) (k0_pay9 w x3) l g a (ix2 j e)
      = a (ix2 j e) + ∑ x : Fin 256, termV x0 x1 x2 x3 x4 x6 true j e ⟨768 + x.val, by omega⟩ := by
  pointwise [k0_pay25]
  simp only [wgt_diag3 hw H, H.g, termV]

theorem key_diag0 (hw : KeyHalf x2 w) {u : Vec Ideal S256x128 .bf16} (hu : ValueHalf x2 256 (by omega) u)
    (H : Rows x4 x5 x6 (fun r => ⟨r.val, by omega⟩) g o l) (b : Vec Ideal S256x256 .f32) (j : Fin 256) (d : Fin 256) :
    k0_pay14 (k0_pay8 x0 x1) (k0_pay10 x0 x1 w x3 l) g (k0_pay11 g o) u b (ix2 j d)
      = b (ix2 j d) + ∑ x : Fin 256, termK x0 x1 x2 x3 x4 x5 x6 true ⟨j.val, by omega⟩ d ⟨x.val, by omega⟩ := by
  pointwise [k0_pay14, k0_pay11]
  simp only [wgt_diag0 hw H, query_diag, H.g, H.o, hu _ _, termK, dsc]

theorem key_diag1 (hw : KeyHalf x2 w) {u : Vec Ideal S512x128 .bf16} (hu : ValueHalf x2 512 (by omega) u)
    (H : Rows x4 x5 x6 (fun r => ⟨256 + r.val, by omega⟩) g o l) (b : Vec Ideal S512x256 .f32) (j : Fin 512) (d : Fin 256) :
    k0_pay17 (k0_pay8 x0 x1) (k0_pay15 (k0_pay8 x0 x1) (k0_pay9 w x3) l) g o u b (ix2 j d)
      = b (ix2 j d) + ∑ x : Fin 256, termK x0 x1 x2 x3 x4 x5 x6 true ⟨j.val, by omega⟩ d ⟨256 + x.val, by omega⟩ := by
  pointwise [k0_pay17]
  simp only [wgt_diag1 hw H, query_diag, H.g, H.o, hu _ _, termK, dsc]

theorem key_diag2 (hw : KeyHalf x2 w) {u : Vec Ideal S768x128 .bf16} (hu : ValueHalf x2 768 (by omega) u)
    (H : Rows x4 x5 x6 (fun r => ⟨512 + r.val, by omega⟩) g o l) (b : Vec Ideal S768x256 .f32) (j : Fin 768) (d : Fin 256) :
    k0_pay23 (k0_pay8 x0 x1) (k0_pay18 (k0_pay8 x0 x1) (k0_pay9 w x3)) k0_pay19 k0_pay20 l g o u b (ix2 j d)
      = b (ix2 j d) + ∑ x : Fin 256, termK x0 x1 x2 x3 x4 x5 x6 true ⟨j.val, by omega⟩ d ⟨512 + x.val, by omega⟩ := by
  pointwise [k0_pay23]
  simp only [wgt_diag2 hw H, query_diag, H.g, H.o, hu _ _, termK, dsc]

theorem key_diag3 (hw : KeyHalf x2 w) (hu : ValueHalf x2 1024 le_rfl u) (H : Rows x4 x5 x6 (fun r => ⟨768 + r.val, by omega⟩) g o l)
    (j : Fin 1024) (d : Fin 256) :
    k0_pay3 (k0_pay8 x0 x1) (k0_pay26 (k0_pay8 x0 x1) (k0_pay9 w x3) l g o u) b (ix2 j d)
      = b (ix2 j d) + ∑ x : Fin 256, termK x0 x1 x2 x3 x4 x5 x6 true j d ⟨768 + x.val, by omega⟩ := by
  pointwise [k0_pay3, k0_pay26]
  simp only [wgt_diag3 hw H, query_diag, H.g, H.o, hu _ _, termK, dsc]

/-! ## The first stores and the last -/

theorem zero_key (j : Fin 1024) (d : Fin 256) : (k0_pay1 (F := Ideal)) (ix2 j d) = 0 := by
  pointwise [k0_pay1]

theorem zero_value (j : Fin 1024) (e : Fin 128) : (k0_pay2 (F := Ideal)) (ix2 j e) = 0 := by
  pointwise [k0_pay2]

/-- The packed gradient: the first 128 lanes of the key's, then the value's. -/
theorem packed (a b : Vec Ideal S1024x128 .f32) (j : Fin 1024) (d : Fin 256) :
    k0_pay6 a b (ix2 j d) = if h : d.val < 128 then a (ix2 j ⟨d.val, h⟩) else b (ix2 j ⟨d.val - 128, by omega⟩) := by
  pointwise [k0_pay6]

/-- The gradient of the shared lanes. -/
theorem shared (a : Vec Ideal S1024x128 .f32) (z : Fin 1) (j : Fin 1024) (d : Fin 128) : k0_pay7 a (ix3 z j d) = a (ix2 j d) := by
  pointwise [k0_pay7]

end Cert.KernelIdeal.Payload
-- ==== Proof.Block.lean ====
/-
  What a point leaves in the accumulators, and at the last point of a key block in the outputs.

  The runs of `Point` list the stores a point makes. Read back through the loads between them they are chains of the
  sums of `Payload`: below the diagonal each of the four pairs of stores covers the whole accumulator, on it the
  n-th pair covers the first 256 n keys, and the keys after those are all past the diagonal of its queries, where
  the terms are zero. So either way an accumulator's entry ends with all 1024 queries' terms in it.
-/
module

public import proofs.«01_k».proof.Proof.Payload
public import proofs.«01_k».proof.Proof.Point
public import Idealize.ShloMosaic.Lib.Pipeline.ValueKit.Tiles

@[expose] public section

set_option maxRecDepth 16384
set_option maxHeartbeats 2000000

noncomputable section

namespace Cert.KernelIdeal.Block

open Idealize.ShloMosaic Idealize.ShloMosaic.TcCoe Idealize.SL.Sem Idealize.ShloMosaic.Tactic
open Cert.KernelIdeal Cert.KernelIdeal.Gen Cert.KernelIdeal.Point
open Tile Payload

/-! ## Loads and stores of whole buffers -/

theorem hz : (![0, 0] : Fin 2 → Nat) = fun _ => 0 := by funext a; fin_cases a <;> rfl

theorem ld_half {e : EltTy} (x : Vec Ideal S1024x128 e) (inb) :
    View.ld x (Rect.unit (s := S1024x128) ![0, 0] ![1024, 128] inb) = x := View.ld_unit_zero hz inb x

theorem ld_full {e : EltTy} (x : Vec Ideal S1024x256 e) (inb) :
    View.ld x (Rect.unit (s := S1024x256) ![0, 0] ![1024, 256] inb) = x := View.ld_unit_zero hz inb x

theorem canon_half {e : EltTy} (inb) (w : Vec Ideal S1024x128 e) (L : List (View.Piece (Elt Ideal) S1024x128 e)) :
    View.canon (⟨Rect.unit (s := S1024x128) ![0, 0] ![1024, 128] inb, w⟩ :: L) = w := View.canon_cons_unit_zero hz inb w L

theorem canon_full {e : EltTy} (inb) (w : Vec Ideal S1024x256 e) (L : List (View.Piece (Elt Ideal) S1024x256 e)) :
    View.canon (⟨Rect.unit (s := S1024x256) ![0, 0] ![1024, 256] inb, w⟩ :: L) = w := View.canon_cons_unit_zero hz inb w L

theorem canon_rope (inb) (w : Vec Ideal S1x1024x128 .f32) (L : List (View.Piece (Elt Ideal) S1x1024x128 .f32)) :
    View.canon (⟨Rect.unit (s := S1x1024x128) ![0, 0, 0] ![1, 1024, 128] inb, w⟩ :: L) = w :=
  View.canon_cons_unit_zero (by funext a; fin_cases a <;> rfl) inb w L

/-- A load of the whole key accumulator reads what the stores left, entry by entry; -/
theorem readCov_full {V : View sig .tc .vmem S1024x256 .f32} (L : List (View.Piece (Elt Ideal) S1024x256 .f32)) (inb)
    (j : Fin 1024) (d : Fin 256) :
    V.readCov L (Rect.unit (s := S1024x256) ![0, 0] ![1024, 256] inb).toLoadRect (ix2 j d) = View.canon L (ix2 j d) := by
  rw [View.readCov_eq_canon']
  refine congrArg (View.canon L) (funext fun a => Fin.ext ?_)
  fin_cases a <;> simp [LoadRect.idx, Rect.unit]

/-- and one of the whole value accumulator. -/
theorem readCov_half {V : View sig .tc .vmem S1024x128 .f32} (L : List (View.Piece (Elt Ideal) S1024x128 .f32)) (inb)
    (j : Fin 1024) (d : Fin 128) :
    V.readCov L (Rect.unit (s := S1024x128) ![0, 0] ![1024, 128] inb).toLoadRect (ix2 j d) = View.canon L (ix2 j d) := by
  rw [View.readCov_eq_canon']
  refine congrArg (View.canon L) (funext fun a => Fin.ext ?_)
  fin_cases a <;> simp [LoadRect.idx, Rect.unit]

/-- A store to the first `n` keys that adds `D` to what is there, `D` zero on the keys after those: it adds `D` everywhere. -/
theorem canon_add {m : Nat} (V : View sig .tc .vmem (⟨2, ![1024, m]⟩ : Shape) .f32) (n : Nat) (hn : n ≤ 1024) (inb)
    (w : (Rect.unit (s := (⟨2, ![1024, m]⟩ : Shape)) ![0, 0] ![n, m] inb).shape.Idx → EReal)
    (L : List (View.Piece (Elt Ideal) (⟨2, ![1024, m]⟩ : Shape) .f32)) (D : Fin 1024 → Fin m → EReal)
    (hin : ∀ (j : Fin n) (d : Fin m), w (ix2 j d)
      = V.readCov L (Rect.unit (s := (⟨2, ![1024, m]⟩ : Shape)) ![0, 0] ![n, m] inb).toLoadRect (ix2 j d) + D ⟨j.val, by omega⟩ d)
    (hout : ∀ (j : Fin 1024) (d : Fin m), n ≤ j.val → D j d = 0) (j : Fin 1024) (d : Fin m) :
    View.canon (⟨Rect.unit (s := (⟨2, ![1024, m]⟩ : Shape)) ![0, 0] ![n, m] inb, w⟩ :: L) (ix2 j d)
      = (View.canon L (ix2 j d) + D j d : EReal) := by
  by_cases hj : j.val < n
  · have he : (Rect.unit (s := (⟨2, ![1024, m]⟩ : Shape)) ![0, 0] ![n, m] inb).emb (ix2 ⟨j.val, hj⟩ d) = ix2 j d := by
      funext a
      apply Fin.ext
      fin_cases a <;> simp [Rect.emb, LoadRect.idx, Rect.unit]
    rw [← he, View.canon_cons_emb, hin, View.readCov_eq_canon']
    rfl
  · rw [View.canon_cons_of_not_mem _ _ (fun h => ?_), hout j d (by omega), add_zero]
    obtain ⟨x, hx⟩ := LoadRect.exists_idx_of_mem _ h
    have h0 := congrArg (fun y : (⟨2, ![1024, m]⟩ : Shape).Idx => (y 0).val) hx
    have h1 : (x 0).val < n := (x 0).isLt
    simp [LoadRect.idx, Rect.unit] at h0
    omega

/-! ## The loads of the inputs -/

theorem ld_rows (x : Vec Ideal S1024x128 .f32) (off : Nat) (ho : off ≤ 768) (inb) (r : Fin 256) (e : Fin 128) :
    View.ld x (Rect.unit (s := S1024x128) ![off, 0] ![256, 128] inb) (ix2 r e) = x (ix2 ⟨off + r.val, by omega⟩ e) :=
  View.ld_unit_apply_of x _ _ _ _ _ fun a => by fin_cases a <;> simp

theorem ld_lse (x : Vec Ideal S1x1024x1 .f32) (off : Nat) (ho : off ≤ 768) (inb) (r : Fin 256) :
    View.ld x (Rect.unit (s := S1x1024x1) ![0, off, 0] ![1, 256, 1] inb) (ix3 0 r 0) = x (ix3 0 ⟨off + r.val, by omega⟩ 0) :=
  View.ld_unit_apply_of x _ _ _ _ _ fun a => by fin_cases a <;> simp

theorem rows (x4 x5 : Vec Ideal S1024x128 .f32) (x6 : Vec Ideal S1x1024x1 .f32) (off : Nat) (ho : off ≤ 768) (inb inb' inb'') :
    Rows x4 x5 x6 (fun r => ⟨off + r.val, by omega⟩) (View.ld x4 (Rect.unit (s := S1024x128) ![off, 0] ![256, 128] inb))
      (View.ld x5 (Rect.unit (s := S1024x128) ![off, 0] ![256, 128] inb'))
      (View.ld x6 (Rect.unit (s := S1x1024x1) ![0, off, 0] ![1, 256, 1] inb'')) :=
  ⟨fun _ _ => ld_rows _ _ ho _ _ _, fun _ _ => ld_rows _ _ ho _ _ _, fun _ => ld_lse _ _ ho _ _⟩

theorem rows0 (x4 x5 : Vec Ideal S1024x128 .f32) (x6 : Vec Ideal S1x1024x1 .f32) (inb inb' inb'') :
    Rows x4 x5 x6 (fun r => ⟨r.val, by omega⟩) (View.ld x4 (Rect.unit (s := S1024x128) ![0, 0] ![256, 128] inb))
      (View.ld x5 (Rect.unit (s := S1024x128) ![0, 0] ![256, 128] inb'))
      (View.ld x6 (Rect.unit (s := S1x1024x1) ![0, 0, 0] ![1, 256, 1] inb'')) := by
  have h := rows x4 x5 x6 0 (by omega) inb inb' inb''
  simp only [Nat.zero_add] at h
  exact h

theorem key_half (x : Vec Ideal S1024x256 .bf16) (inb) :
    KeyHalf x (View.ld x (Rect.unit (s := S1024x256) ![0, 0] ![1024, 128] inb)) := fun _ _ =>
  View.ld_unit_apply_of x _ _ _ _ _ fun a => by fin_cases a <;> simp

theorem value_half (x : Vec Ideal S1024x256 .bf16) (n : Nat) (hn : n ≤ 1024) (inb) :
    ValueHalf x n hn (View.ld x (Rect.unit (s := S1024x256) ![0, 128] ![n, 128] inb)) := fun _ _ =>
  View.ld_unit_apply_of x _ _ _ _ _ fun a => by fin_cases a <;> simp

/-! ## The accumulators -/

variable (c : Dev nD) (i : grid0.Coords) (M : Mems) (X : Ins Ideal) (S : Acc Ideal)

/-- What a point adds to a key's gradient, and to its value's. -/
abbrev addK (diag : Bool) (j : Fin 1024) (d : Fin 256) : EReal := ∑ r, termK X.q0 X.q1 X.kv X.kr X.g X.o X.l diag j d r
abbrev addV (diag : Bool) (j : Fin 1024) (e : Fin 128) : EReal := ∑ r, termV X.q0 X.q1 X.kv X.kr X.g X.l diag j e r

theorem accB_v (h : conds0_B i) (j : Fin 1024) (e : Fin 128) :
    (accB c i M X S h).v (ix2 j e) = (S.v (ix2 j e) + addV X false j e : EReal) := by
  rw [accB]; unfold runB kernelRun0_B; dsimp only
  sl_unfold_words
  simp only [canon_half, canon_full, View.readAt_eq_ld, Memref.IsWhole.read_unread, ld_half, ld_full, View.readCov_cons_toLoadRect]
  refine (value_off3 (key_half X.kv _) (rows X.g X.o X.l 768 (by omega) _ inb_S1024x128_S256x128_768_0 _) j e).trans ?_
  rw [value_off2 (key_half X.kv _) (rows X.g X.o X.l 512 (by omega) _ inb_S1024x128_S256x128_512_0 _) j e,
    value_off1 (key_half X.kv _) (rows X.g X.o X.l 256 (by omega) _ inb_S1024x128_S256x128_256_0 _) j e,
    value_off0 (key_half X.kv _) (rows0 X.g X.o X.l _ inb_S1024x128_S256x128_0_0 _) j e]
  exact sum_chunks (fun r => termV X.q0 X.q1 X.kv X.kr X.g X.l false j e r) _

theorem accB_k (h : conds0_B i) (j : Fin 1024) (d : Fin 256) :
    (accB c i M X S h).k (ix2 j d) = (S.k (ix2 j d) + addK X false j d : EReal) := by
  rw [accB]; unfold runB kernelRun0_B; dsimp only
  sl_unfold_words
  simp only [canon_half, canon_full, View.readAt_eq_ld, Memref.IsWhole.read_unread, ld_half, ld_full, View.readCov_cons_toLoadRect]
  refine (key_off3 (key_half X.kv _) (value_half X.kv 1024 le_rfl _) (rows X.g X.o X.l 768 (by omega) _ _ _) j d).trans ?_
  rw [key_off2 (key_half X.kv _) (value_half X.kv 1024 le_rfl _) (rows X.g X.o X.l 512 (by omega) _ _ _) j d,
    key_off1 (key_half X.kv _) (value_half X.kv 1024 le_rfl _) (rows X.g X.o X.l 256 (by omega) _ _ _) j d,
    key_off0 (key_half X.kv _) (value_half X.kv 1024 le_rfl _) (rows0 X.g X.o X.l _ _ _) j d]
  exact sum_chunks (fun r => termK X.q0 X.q1 X.kv X.kr X.g X.o X.l false j d r) _

theorem accA_v (h : conds0_A i) (j : Fin 1024) (e : Fin 128) :
    (accA c i M X h).v (ix2 j e) = addV X true j e := by
  rw [accA]; unfold runA kernelRun0_A; dsimp only
  sl_unfold_words
  simp only [canon_half, canon_full, View.readAt_eq_ld, Memref.IsWhole.read_unread, ld_half, ld_full, View.readCov_cons_toLoadRect]
  refine (value_diag3 (key_half X.kv _) (rows X.g X.o X.l 768 (by omega) _ inb_S1024x128_S256x128_768_0 _) j e).trans ?_
  rw [readCov_half,
    canon_add _ 768 (by omega) _ _ _ (fun j e => ∑ x : Fin 256, termV X.q0 X.q1 X.kv X.kr X.g X.l true j e ⟨512 + x.val, by omega⟩)
      (fun j e => value_diag2 (key_half X.kv _) (rows X.g X.o X.l 512 (by omega) _ inb_S1024x128_S256x128_512_0 _) _ j e)
      (fun j e hj => Finset.sum_eq_zero fun x _ => termV_masked _ _ _ _ _ _ (by show 512 + x.val < j.val; omega) e),
    canon_add _ 512 (by omega) _ _ _ (fun j e => ∑ x : Fin 256, termV X.q0 X.q1 X.kv X.kr X.g X.l true j e ⟨256 + x.val, by omega⟩)
      (fun j e => value_diag1 (key_half X.kv _) (rows X.g X.o X.l 256 (by omega) _ inb_S1024x128_S256x128_256_0 _) _ j e)
      (fun j e hj => Finset.sum_eq_zero fun x _ => termV_masked _ _ _ _ _ _ (by show 256 + x.val < j.val; omega) e),
    canon_add _ 256 (by omega) _ _ _ (fun j e => ∑ x : Fin 256, termV X.q0 X.q1 X.kv X.kr X.g X.l true j e ⟨x.val, by omega⟩)
      (fun j e => value_diag0 (key_half X.kv _) (rows0 X.g X.o X.l _ inb_S1024x128_S256x128_0_0 _) _ j e)
      (fun j e hj => Finset.sum_eq_zero fun x _ => termV_masked _ _ _ _ _ _ (by show x.val < j.val; omega) e),
    canon_half, zero_value]
  exact (sum_chunks (fun r => termV X.q0 X.q1 X.kv X.kr X.g X.l true j e r) _).trans (zero_add _)

theorem accA_k (h : conds0_A i) (j : Fin 1024) (d : Fin 256) :
    (accA c i M X h).k (ix2 j d) = addK X true j d := by
  rw [accA]; unfold runA kernelRun0_A; dsimp only
  sl_unfold_words
  simp only [canon_half, canon_full, View.readAt_eq_ld, Memref.IsWhole.read_unread, ld_half, ld_full, View.readCov_cons_toLoadRect]
  refine (key_diag3 (key_half X.kv _) (value_half X.kv 1024 le_rfl _) (rows X.g X.o X.l 768 (by omega) _ _ _) j d).trans ?_
  rw [readCov_full,
    canon_add _ 768 (by omega) _ _ _ (fun j d => ∑ x : Fin 256, termK X.q0 X.q1 X.kv X.kr X.g X.o X.l true j d ⟨512 + x.val, by omega⟩)
      (fun j d => key_diag2 (key_half X.kv _) (value_half X.kv 768 (by omega) _) (rows X.g X.o X.l 512 (by omega) _ _ _) _ j d)
      (fun j d hj => Finset.sum_eq_zero fun x _ => termK_masked _ _ _ _ _ _ _ (by show 512 + x.val < j.val; omega) d),
    canon_add _ 512 (by omega) _ _ _ (fun j d => ∑ x : Fin 256, termK X.q0 X.q1 X.kv X.kr X.g X.o X.l true j d ⟨256 + x.val, by omega⟩)
      (fun j d => key_diag1 (key_half X.kv _) (value_half X.kv 512 (by omega) _) (rows X.g X.o X.l 256 (by omega) _ _ _) _ j d)
      (fun j d hj => Finset.sum_eq_zero fun x _ => termK_masked _ _ _ _ _ _ _ (by show 256 + x.val < j.val; omega) d),
    canon_add _ 256 (by omega) _ _ _ (fun j d => ∑ x : Fin 256, termK X.q0 X.q1 X.kv X.kr X.g X.o X.l true j d ⟨x.val, by omega⟩)
      (fun j d => key_diag0 (key_half X.kv _) (value_half X.kv 256 (by omega) _) (rows0 X.g X.o X.l _ _ _) _ j d)
      (fun j d hj => Finset.sum_eq_zero fun x _ => termK_masked _ _ _ _ _ _ _ (by show x.val < j.val; omega) d),
    canon_full, zero_key]
  exact (sum_chunks (fun r => termK X.q0 X.q1 X.kv X.kr X.g X.o X.l true j d r) _).trans (zero_add _)

/-- A last point makes a point's stores, and then the outputs': its accumulators end like another point's of its side. -/
theorem accC_eq {i' : grid0.Coords} (h : conds0_C i) (h' : conds0_B i') : accC c i M X S h = accB c i' M X S h' := by
  rw [accC, accB]; unfold runC runB kernelRun0_C kernelRun0_B
  rfl

theorem accD_eq {i' : grid0.Coords} (h : conds0_D i) (h' : conds0_A i') : accD c i M X h = accA c i' M X h' := by
  rw [accD, accA]; unfold runD runA kernelRun0_D kernelRun0_A
  rfl

/-! ## The outputs -/

/-- The outputs of a pair of accumulators: the packed block, and the block of the shared lanes. -/
structure Stored (O : Outs Ideal) (A : Acc Ideal) : Prop where
  key : ∀ (j : Fin 1024) (d : Fin 128), O.kv (ix2 j ⟨d.val, by omega⟩) = A.k (ix2 j ⟨d.val, by omega⟩)
  value : ∀ (j : Fin 1024) (e : Fin 128), O.kv (ix2 j ⟨128 + e.val, by omega⟩) = A.v (ix2 j e)
  shared : ∀ (z : Fin 1) (j : Fin 1024) (d : Fin 128), O.kr (ix3 z j d) = A.k (ix2 j ⟨128 + d.val, by omega⟩)

/-- What the two last stores of a last point are, of the lists `L₀` and `L₁` of the accumulators' stores. -/
theorem stored_of (V₀ : View sig .tc .vmem S1024x256 .f32) (V₁ : View sig .tc .vmem S1024x128 .f32)
    (L₀ : List (View.Piece (Elt Ideal) S1024x256 .f32)) (L₁ : List (View.Piece (Elt Ideal) S1024x128 .f32)) (i₀ i₁ i₂ i₃ i₄) :
    Stored
      ⟨View.canon [⟨Rect.unit (s := S1024x256) ![0, 0] ![1024, 256] i₀,
          k0_pay6 (V₀.readCov L₀ (Rect.unit (s := S1024x256) ![0, 0] ![1024, 128] i₁).toLoadRect)
            (V₁.readCov L₁ (Rect.unit (s := S1024x128) ![0, 0] ![1024, 128] i₂).toLoadRect)⟩],
        View.canon [⟨Rect.unit (s := S1x1024x128) ![0, 0, 0] ![1, 1024, 128] i₃,
          k0_pay7 (V₀.readCov L₀ (Rect.unit (s := S1024x256) ![0, 128] ![1024, 128] i₄).toLoadRect)⟩]⟩
      ⟨View.canon L₀, View.canon L₁⟩ := by
  refine ⟨fun j d => ?_, fun j e => ?_, fun z j d => ?_⟩
  · refine (congrFun (canon_full _ _ _) _).trans ((packed _ _ j _).trans ?_)
    rw [dif_pos (by show d.val < 128; omega), View.readCov_eq_canon']
    refine congrArg (View.canon L₀) (funext fun a => Fin.ext ?_)
    fin_cases a <;> simp [LoadRect.idx, Rect.unit]
  · refine (congrFun (canon_full _ _ _) _).trans ((packed _ _ j _).trans ?_)
    rw [dif_neg (by show ¬128 + e.val < 128; omega), readCov_half]
    refine congrArg (View.canon L₁) (congrArg (ix2 j) (Fin.ext ?_))
    show 128 + e.val - 128 = e.val
    omega
  · dsimp only
    rw [canon_rope, Payload.shared, View.readCov_eq_canon']
    refine congrArg (View.canon L₀) (funext fun a => Fin.ext ?_)
    fin_cases a <;> simp [LoadRect.idx, Rect.unit]

theorem stored_C (h : conds0_C i) : Stored (outC c i M X S h) (accC c i M X S h) := by
  rw [outC, accC]; unfold runC kernelRun0_C
  exact stored_of _ _ _ _ _ _ _ _ _

theorem stored_D (h : conds0_D i) : Stored (outD c i M X h) (accD c i M X h) := by
  rw [outD, accD]; unfold runD kernelRun0_D
  exact stored_of _ _ _ _ _ _ _ _ _

end Cert.KernelIdeal.Block
-- ==== Proof.Sweep.lean ====
/-
  The accumulators over a sweep: after its last point they hold the sums over all 8192 queries.
-/
module

public import proofs.«01_k».proof.Proof.Blocks
public import proofs.«01_k».proof.Proof.Block

@[expose] public section

set_option maxRecDepth 16384
set_option maxHeartbeats 2000000

noncomputable section

namespace Cert.KernelIdeal.Grid

open Idealize.ShloMosaic Idealize.ShloMosaic.TcCoe Idealize.SL.Sem Idealize.ShloMosaic.Tactic
open Cert.KernelIdeal Cert.KernelIdeal.Gen Cert.KernelIdeal.Point Cert.KernelIdeal.Block

/-- A number that a sweep's first point sets to its tile's share `T` and every later one adds its own to: at any point it is
    the shares so far. The tiles above the diagonal, which no point visits, have none. -/
theorem sweep (f : ℕ → EReal) (T : Fin 16 → Fin 8 → Fin 8 → EReal)
    (hdiag : ∀ t : Fin cfg0.N, qb t = kb t → f (t.val + 1) = T (hd t) (kb t) (qb t))
    (hoff : ∀ t : Fin cfg0.N, qb t ≠ kb t → f (t.val + 1) = f t.val + T (hd t) (kb t) (qb t))
    (hmask : ∀ h b a, a < b → T h b a = 0) (n : ℕ) (hn : n < cfg0.N) :
    f (n + 1) = ∑ a, if a ≤ qb ⟨n, hn⟩ then T (hd ⟨n, hn⟩) (kb ⟨n, hn⟩) a else 0 := by
  induction n with
  | zero =>
    have e : qb ⟨0, hn⟩ = kb ⟨0, hn⟩ := by decide +revert
    rw [hdiag ⟨0, hn⟩ e, Finset.sum_eq_single (qb ⟨0, hn⟩), if_pos le_rfl]
    · intro a _ ha
      split
      · exact hmask _ _ _ (e ▸ lt_of_le_of_ne ‹_› ha)
      · rfl
    · exact fun h => absurd (Finset.mem_univ _) h
  | succ k ih =>
    obtain e | e := Classical.em (qb ⟨k + 1, hn⟩ = kb ⟨k + 1, hn⟩)
    · rw [hdiag ⟨k + 1, hn⟩ e, Finset.sum_eq_single (qb ⟨k + 1, hn⟩), if_pos le_rfl]
      · intro a _ ha
        split
        · exact hmask _ _ _ (e ▸ lt_of_le_of_ne ‹_› ha)
        · rfl
      · exact fun h => absurd (Finset.mem_univ _) h
    · have hk : k < cfg0.N := by omega
      obtain ⟨-, h₁, h₂, h₃, -⟩ := off_step ⟨k + 1, hn⟩ e
      have eh : hd ⟨k, hk⟩ = hd ⟨k + 1, hn⟩ := Fin.ext h₁
      have eb : kb ⟨k, hk⟩ = kb ⟨k + 1, hn⟩ := Fin.ext h₂
      have eq : (qb ⟨k, hk⟩).val + 1 = (qb ⟨k + 1, hn⟩).val := h₃
      rw [hoff ⟨k + 1, hn⟩ e]
      show f (k + 1) + _ = _
      rw [ih hk, eh, eb]
      have last : T (hd ⟨k + 1, hn⟩) (kb ⟨k + 1, hn⟩) (qb ⟨k + 1, hn⟩)
          = ∑ a, if a = qb ⟨k + 1, hn⟩ then T (hd ⟨k + 1, hn⟩) (kb ⟨k + 1, hn⟩) a else 0 := by
        rw [Finset.sum_ite_eq', if_pos (Finset.mem_univ _)]
      rw [last, ← Finset.sum_add_distrib]
      refine Finset.sum_congr rfl fun a _ => ?_
      simp only [Fin.le_def, Fin.ext_iff]
      rcases lt_trichotomy a.val (qb ⟨k + 1, hn⟩).val with h | h | h
      · rw [if_pos (by omega), if_neg (by omega), if_pos (by omega), add_zero]
      · rw [if_neg (by omega), if_pos (by omega), if_pos (by omega), zero_add]
      · rw [if_neg (by omega), if_neg (by omega), if_neg (by omega), add_zero]

/-- At a sweep's last point it is the sum over all the queries, a tile's share being the sum over its own. -/
theorem sweep_last (f : ℕ → EReal) (S : Fin 16 → Fin 8 → Fin 8192 → EReal)
    (hdiag : ∀ t : Fin cfg0.N, qb t = kb t → f (t.val + 1) = ∑ r, S (hd t) (kb t) (gl (qb t) r))
    (hoff : ∀ t : Fin cfg0.N, qb t ≠ kb t → f (t.val + 1) = f t.val + ∑ r, S (hd t) (kb t) (gl (qb t) r))
    (hmask : ∀ h b a r, a < b → S h b (gl a r) = 0) (t : Fin cfg0.N) (ht : (qb t).val = 7) :
    f (t.val + 1) = ∑ i, S (hd t) (kb t) i := by
  rw [sweep f (fun h b a => ∑ r, S h b (gl a r)) hdiag hoff (fun h b a hab => Finset.sum_eq_zero fun r _ => hmask h b a r hab)
    t.val t.isLt]
  refine (Finset.sum_congr rfl fun a _ => if_pos (Fin.le_def.mpr ?_)).trans
    (Fin.sum_univ_tiles 8 1024 rfl (S (hd t) (kb t))).symm
  show a.val ≤ (qb t).val
  omega

/-! ## The two accumulators -/

/-- The first point is on the diagonal, and no sweep's last; -/
theorem kind_A : conds0_A (grid0.coords (⟨0, by decide⟩ : Fin cfg0.N)) :=
  ⟨(hcond0_0 _).mpr (Or.inl rfl), (hcond0_1 _).mpr (Or.inl rfl), fun h => (hcond0_2 _).mp h (Or.inl rfl),
    fun h => absurd ((last_iff _).mp h) (by decide)⟩

/-- the second is off it, and not the last either. -/
theorem kind_B : conds0_B (grid0.coords (⟨1, by decide⟩ : Fin cfg0.N)) :=
  ⟨fun h => absurd ((diag_iff _).mp h) (by decide), fun h => absurd ((hcond0_1 _).mp h) (by decide),
    (hcond0_2 _).mpr (by decide), fun h => absurd ((last_iff _).mp h) (by decide)⟩

section Points

variable (c : Dev nD) (M : Mems) (X : Ins Ideal) (S : Acc Ideal) (t : Fin cfg0.N)

/-- What a point on the diagonal leaves in the accumulators, -/
theorem next_diag (h : qb t = kb t) :
    (∀ j d, (accNext c (grid0.coords t) M X S).k (ix2 j d) = addK X true j d)
      ∧ ∀ j e, (accNext c (grid0.coords t) M X S).v (ix2 j e) = addV X true j e := by
  have h0 := (diag_iff t).mpr h
  obtain h' | h' | h' | h' := kinds t
  · rw [accNext_A c _ M X S h']
    exact ⟨accA_k c _ M X h', accA_v c _ M X h'⟩
  · exact absurd h0 h'.1
  · exact absurd h0 h'.1
  · rw [accNext_D c _ M X S h', accD_eq c _ M X h' kind_A]
    exact ⟨accA_k c _ M X kind_A, accA_v c _ M X kind_A⟩

/-- and one off it. -/
theorem next_off (h : qb t ≠ kb t) :
    (∀ j d, (accNext c (grid0.coords t) M X S).k (ix2 j d) = (S.k (ix2 j d) + addK X false j d : EReal))
      ∧ ∀ j e, (accNext c (grid0.coords t) M X S).v (ix2 j e) = (S.v (ix2 j e) + addV X false j e : EReal) := by
  have h0 : ¬cond0_0 (grid0.coords t) := fun h' => h ((diag_iff t).mp h')
  obtain h' | h' | h' | h' := kinds t
  · exact absurd h'.1 h0
  · rw [accNext_B c _ M X S h']
    exact ⟨accB_k c _ M X S h', accB_v c _ M X S h'⟩
  · rw [accNext_C c _ M X S h', accC_eq c _ M X S h' kind_B]
    exact ⟨accB_k c _ M X S kind_B, accB_v c _ M X S kind_B⟩
  · exact absurd h'.1 h0

end Points

variable (m : (ℓ : Loc nD τ sig) → Buf (Elt Ideal) ℓ) (c : Dev nD)

theorem le_of_off (t : Fin cfg0.N) (h : qb t ≠ kb t) : kb t ≤ qb t := Fin.le_def.mpr (off_step t h).2.2.2.2.le

/-- A query before the key's block does not see the key. -/
theorem wt_before (h : Fin 16) {a b : Fin 8} (r j : Fin 1024) (hab : a < b) : Attn.wt (A m c) h (gl a r) (gl b j) = 0 := by
  rw [Attn.wt, if_pos]
  show a.val * 1024 + r.val < b.val * 1024 + j.val
  have := Fin.lt_def.mp hab
  omega

/-- The gradient of lane `d` of a key, at its sweep's last point; -/
theorem acc_key (t : Fin cfg0.N) (ht : (qb t).val = 7) (j : Fin 1024) (d : Fin 256) :
    (scr m c (t.val + 1)).k (ix2 j d)
      = ∑ i, Attn.ds (A m c) (hd t) i (gl (kb t) j) * Attn.q (A m c) (hd t) i d := by
  refine sweep_last (fun n => (scr m c n).k (ix2 j d))
    (fun h b i => Attn.ds (A m c) h i (gl b j) * Attn.q (A m c) h i d) (fun t h => ?_) (fun t h => ?_) (fun h b a r hab => ?_) t ht
  · rw [scr_succ, (next_diag c _ _ _ t h).1]
    exact Finset.sum_congr rfl fun r _ => termK_eq m c t true ⟨fun _ => h, fun _ => rfl⟩ h.ge j d r
  · rw [scr_succ, (next_off c _ _ _ t h).1]
    exact congrArg _ (Finset.sum_congr rfl fun r _ =>
      termK_eq m c t false ⟨fun h' => absurd h' Bool.false_ne_true, fun h' => absurd h' h⟩ (le_of_off t h) j d r)
  · rw [Attn.ds, wt_before m c h r j hab, zero_mul, zero_mul, zero_mul]

/-- and that of lane `e` of its value. -/
theorem acc_value (t : Fin cfg0.N) (ht : (qb t).val = 7) (j : Fin 1024) (e : Fin 128) :
    (scr m c (t.val + 1)).v (ix2 j e)
      = ∑ i, Attn.wt (A m c) (hd t) i (gl (kb t) j) * Attn.g (A m c) (hd t) i e := by
  refine sweep_last (fun n => (scr m c n).v (ix2 j e))
    (fun h b i => Attn.wt (A m c) h i (gl b j) * Attn.g (A m c) h i e) (fun t h => ?_) (fun t h => ?_) (fun h b a r hab => ?_) t ht
  · rw [scr_succ, (next_diag c _ _ _ t h).2]
    exact Finset.sum_congr rfl fun r _ => termV_eq m c t true ⟨fun _ => h, fun _ => rfl⟩ h.ge j e r
  · rw [scr_succ, (next_off c _ _ _ t h).2]
    exact congrArg _ (Finset.sum_congr rfl fun r _ =>
      termV_eq m c t false ⟨fun h' => absurd h' Bool.false_ne_true, fun h' => absurd h' h⟩ (le_of_off t h) j e r)
  · rw [wt_before m c h r j hab, zero_mul]

end Cert.KernelIdeal.Grid

end
-- ==== Proof.Result.lean ====
/-
  The two results: what the call writes is what the derivative of the attention computes.

  A sweep's last point writes its key block of both results, from the accumulators. The sums they hold are of the kernel's
  own formulas, from the rows' log-sum-exp; for finite arguments those are the derivative's.
-/
module

public import proofs.«01_k».proof.Proof.Sweep
public import proofs.«01_k».proof.Proof.Launch

@[expose] public section

set_option maxRecDepth 16384
set_option maxHeartbeats 2000000

noncomputable section

namespace Cert.KernelIdeal.Grid

open Idealize.ShloMosaic Idealize.ShloMosaic.TcCoe Idealize.SL.Sem Idealize.ShloMosaic.Tactic
open Cert.KernelIdeal Cert.KernelIdeal.Gen Cert.KernelIdeal.Point Cert.KernelIdeal.Block
open Cert.ReferenceIdeal.Read Cert.ReferenceIdeal.Grad

variable (m : (ℓ : Loc nD τ sig) → Buf (Elt Ideal) ℓ) (c : Dev nD)

/-- The reference's first result, on the kernel's arguments: the gradient of the packed keys and values, -/
@[irreducible] def dkv : FVec Ideal S8192x4096 .bf16 :=
  val_main_v84 (F := Ideal) (Host.a0 m c) (Host.a1 m c) (Host.a2 m c) (Host.a3 m c) (Host.a4 m c)

/-- and its second, that of the keys' shared half. -/
@[irreducible] def dkr : FVec Ideal S16x8192x128 .f32 :=
  val_main_v79 (F := Ideal) (Host.a0 m c) (Host.a1 m c) (Host.a2 m c) (Host.a3 m c) (Host.a4 m c)

theorem dkv_def : dkv m c
    = val_main_v84 (F := Ideal) (Host.a0 m c) (Host.a1 m c) (Host.a2 m c) (Host.a3 m c) (Host.a4 m c) := by unfold dkv; rfl

theorem dkr_def : dkr m c
    = val_main_v79 (F := Ideal) (Host.a0 m c) (Host.a1 m c) (Host.a2 m c) (Host.a3 m c) (Host.a4 m c) := by unfold dkr; rfl

/-- Only a sweep's last point writes back. -/
theorem last_of_flush7 (t : Fin cfg0.N) (h : (cfg0.win 7).flush t = true) : cond0_3 (grid0.coords t) := by
  obtain h' | h' | h' | h' := kinds t
  · rw [noFlush0_7_A t h'.1 h'.2.1 h'.2.2.1 h'.2.2.2] at h
    exact absurd h Bool.false_ne_true
  · rw [noFlush0_7_B t h'.1 h'.2.1 h'.2.2.1 h'.2.2.2] at h
    exact absurd h Bool.false_ne_true
  · exact h'.2.2.2
  · exact h'.2.2.2

theorem last_of_flush8 (t : Fin cfg0.N) (h : (cfg0.win 8).flush t = true) : cond0_3 (grid0.coords t) := by
  obtain h' | h' | h' | h' := kinds t
  · rw [noFlush0_8_A t h'.1 h'.2.1 h'.2.2.1 h'.2.2.2] at h
    exact absurd h Bool.false_ne_true
  · rw [noFlush0_8_B t h'.1 h'.2.1 h'.2.2.1 h'.2.2.2] at h
    exact absurd h Bool.false_ne_true
  · exact h'.2.2.2
  · exact h'.2.2.2

/-- It writes the accumulators. -/
theorem stored (t : Fin cfg0.N) (h : cond0_3 (grid0.coords t)) : Stored (outAt m c t) (scr m c (t.val + 1)) := by
  rw [scr_succ, outAt]
  obtain h' | h' | h' | h' := kinds t
  · exact absurd h h'.2.2.2
  · exact absurd h h'.2.2.2
  · rw [outNext_C c _ _ _ _ h', accNext_C c _ _ _ _ h']
    exact stored_C c _ _ _ _ h'
  · rw [outNext_D c _ _ _ _ h', accNext_D c _ _ _ _ h']
    exact stored_D c _ _ _ h'

theorem upper (e : Fin 128) : 128 + e.val < 256 := by omega

variable (hA : (A m c).Finite)
include hA

/-- A last point's block of the first result, -/
theorem block_kv (t : Fin cfg0.N) (h : cond0_3 (grid0.coords t)) (j : Fin 1024) (d : Fin 256) :
    (outAt m c t).kv (ix2 j d) = dkv m c (ix2 (gl (kb t) j) ⟨(hd t).val * 256 + d.val, by omega⟩) := by
  have ht := (last_iff t).mp h
  unfold dkv
  by_cases hd' : d.val < 128
  · refine ((stored m c t h).key j ⟨d.val, hd'⟩).trans ((acc_key m c t ht j _).trans ?_)
    refine Eq.trans ?_ (dkv_key (Host.a0 m c) (Host.a1 m c) (Host.a2 m c) (Host.a3 m c) (Host.a4 m c) (hd t) (gl (kb t) j)
      ⟨d.val, hd'⟩).symm
    exact Finset.sum_congr rfl fun i _ => by rw [Attn.ds_eq (hd t) hA]
  · obtain ⟨e, he⟩ : ∃ e : Fin 128, d.val = 128 + e.val := ⟨⟨d.val - 128, by omega⟩, by dsimp only; omega⟩
    obtain rfl : d = ⟨128 + e.val, upper e⟩ := Fin.ext he
    refine ((stored m c t h).value j e).trans ((acc_value m c t ht j e).trans ?_)
    refine Eq.trans ?_ (dkv_value (Host.a0 m c) (Host.a1 m c) (Host.a2 m c) (Host.a3 m c) (Host.a4 m c) (hd t) (gl (kb t) j)
      e).symm
    exact Finset.sum_congr rfl fun i _ => by rw [Attn.wt_eq (hd t) hA, mul_comm]

/-- and of the second. -/
theorem block_kr (t : Fin cfg0.N) (h : cond0_3 (grid0.coords t)) (z : Fin 1) (j : Fin 1024) (d : Fin 128) :
    (outAt m c t).kr (ix3 z j d) = dkr m c (ix3 (hd t) (gl (kb t) j) d) := by
  have ht := (last_iff t).mp h
  unfold dkr
  refine ((stored m c t h).shared z j d).trans ((acc_key m c t ht j _).trans ?_)
  refine Eq.trans ?_ (dkr_eq (Host.a0 m c) (Host.a1 m c) (Host.a2 m c) (Host.a3 m c) (Host.a4 m c) (hd t) (gl (kb t) j) d).symm
  exact Finset.sum_congr rfl fun i _ => by rw [Attn.ds_eq (hd t) hA]

/-- So the results are whole. -/
theorem final_kv : (dats m 0 c).arrAt 7 cfg0.N = dkv m c := by
  refine (dats m 0 c).arrAt_eq_of_covers 7 _ (by decide +kernel) fun t hf y => ?_
  have hl := last_of_flush7 t hf
  blk_simp
  rw [after_7]
  obtain ⟨j, d, rfl⟩ : ∃ (j : Fin 1024) (d : Fin 256), y = ix2 j d := ⟨y 0, y 1, eq_ix2 y⟩
  exact (block_kv m c hA t hl j d).trans (congrArg (dkv m c) (emb_r0 t j d).symm)

theorem final_kr : (dats m 0 c).arrAt 8 cfg0.N = dkr m c := by
  refine (dats m 0 c).arrAt_eq_of_covers 8 _ (by decide +kernel) fun t hf y => ?_
  have hl := last_of_flush8 t hf
  blk_simp
  rw [after_8]
  obtain ⟨z, j, d, rfl⟩ : ∃ (z : Fin 1) (j : Fin 1024) (d : Fin 128), y = ix3 z j d := ⟨y 0, y 1, y 2, eq_ix3 y⟩
  exact (block_kr m c hA t hl z j d).trans (congrArg (dkr m c) (emb_r1 t z j d).symm)

end Cert.KernelIdeal.Grid

end
-- ==== Proof.Finite.lean ====
/-
  The precondition, read: every entry that the call reads is a real number.
-/
module

public import proofs.«01_k».proof.Pre_finite
public import proofs.«01_k».proof.Proof.Ref

@[expose] public section

set_option maxRecDepth 16384

noncomputable section

namespace Cert.Pre_finite

open Idealize.ShloMosaic Idealize.ShloMosaic.TcCoe Idealize.SL.Sem

theorem facts : Facts where
  slices_S8192x13312_S8192x2048_0_0 := by decide
  bitsLt_bf16_f32 := by decide
  bcast_S_S8192x2048 := by decide
  bcast_S_S8192x4096 := by decide
  bcast_S_S8192x128 := by decide

/-- A number of magnitude below infinity is real. -/
theorem real_of_lt (x : EReal) (h : Ideal.cmp .olt (max x (-x)) (Ideal.ofBits FTy.f32 0x7F800000#32) = 1#1) :
    ∃ r : ℝ, x = r := by
  have top : Ideal.ofBits FTy.f32 0x7F800000#32 = (⊤ : EReal) := by simp [Ideal.ofBits, Ideal.ieee]
  have lt : max x (-x) < ⊤ := by
    by_contra hn
    rw [top, Ideal.cmp] at h
    simp only [hn, decide_false] at h
    exact absurd h (by decide)
  obtain ⟨h1, h2⟩ := max_lt_iff.mp lt
  induction x with
  | bot => exact absurd h2 (by simp)
  | top => exact absurd h1 (lt_irrefl _)
  | coe r => exact ⟨r, rfl⟩

variable [Facts] (x0 : FVec Ideal S8192x13312 .f32) (x1 : FVec Ideal S8192x2048 .bf16) (x2 : FVec Ideal S8192x4096 .bf16)
  (x3 : FVec Ideal S8192x128 .bf16) (x4 : FVec Ideal S8192x2048 .f32)

theorem finite (h0 : (fn (F := Ideal) x0 x1 x2 x3 x4).1 = fun _ => 1#1) (h1 : (fn (F := Ideal) x0 x1 x2 x3 x4).2.1 = fun _ => 1#1)
    (h2 : (fn (F := Ideal) x0 x1 x2 x3 x4).2.2.1 = fun _ => 1#1) (h3 : (fn (F := Ideal) x0 x1 x2 x3 x4).2.2.2.1 = fun _ => 1#1)
    (h4 : (fn (F := Ideal) x0 x1 x2 x3 x4).2.2.2.2 = fun _ => 1#1) :
    (Cert.ReferenceIdeal.Grad.args x0 x1 x2 x3 x4).Finite where
  proj i c := by
    refine real_of_lt _ (Eq.trans ?_ (congrFun h0 (ix2 i c)))
    refine congrArg (fun y : EReal => Ideal.cmp .olt (max y (-y)) (Ideal.ofBits FTy.f32 0x7F800000#32)) ?_
    refine congrArg x0 (funext fun a => Fin.ext ?_)
    fin_cases a <;> simp
  qr i c := real_of_lt _ (congrFun h1 (ix2 i c))
  kv i c := real_of_lt _ (congrFun h2 (ix2 i c))
  kr i c := real_of_lt _ (congrFun h3 (ix2 i c))
  dout i c := real_of_lt _ (congrFun h4 (ix2 i c))

end Cert.Pre_finite

end
-- ==== Proof.Value.lean ====
/-
  The value claim: from arguments that agree and are finite, the call and the derivative of the attention return the same.
-/
module

public import proofs.«01_k».proof.Proof.Result
public import proofs.«01_k».proof.Proof.Finite
public import proofs.«01_k».proof.Proof.Gen.ReferenceIdeal.Run

@[expose] public section

set_option maxRecDepth 16384

noncomputable section

namespace Cert.KernelIdeal.Grid

open Idealize.ShloMosaic Idealize.ShloMosaic.TcCoe Idealize.SL Idealize.SL.RA Idealize.SL.Sem
open Idealize.ShloMosaic.Pipeline (Dat)
open Cert.KernelIdeal Cert.KernelIdeal.Gen Cert.KernelIdeal.Point

/-- A run that leaves the windows' arrays as some proof data says leaves the two results as it says. -/
theorem results_of (m : (ℓ : Loc nD τ sig) → Buf (Elt Ideal) ℓ) (ρ : Dev nD → PrngReg)
    (dats : (p : Fin 1) → (c : Dev nD) → Dat τ (Elt Ideal) Unit ℕ (UR sig nD τ) ℕ (cfgs p) c)
    (G : (c : Dev nD) → Buf (Elt Ideal) ((c.tc : Thread nD τ).loc main_v47_0))
    (H : (c : Dev nD) → Buf (Elt Ideal) ((c.tc : Thread nD τ).loc main_v47_1))
    (hG : ∀ c, (dats 0 c).arrAt 7 cfg0.N = G c) (hH : ∀ c, (dats 0 c).arrAt 8 cfg0.N = H c)
    (h : θ_run defs (onTc (τ := τ) (main (F := Ideal))) ⟨m, fun _ => 0, ρ⟩ (Pipeline.FramePost cfgs dats 0 (V m))) :
    θ_run defs (onTc (τ := τ) (main (F := Ideal))) ⟨m, fun _ => 0, ρ⟩ (fun r => ∀ c : Dev nD,
      r.2.mem ((c.tc : Thread nD τ).loc main_v47_0) = G c ∧ r.2.mem ((c.tc : Thread nD τ).loc main_v47_1) = H c) :=
  (θ_run defs _ _).mono (fun _ h c => ⟨((h c).1 7).trans (hG c), ((h c).1 8).trans (hH c)⟩) h

variable (m : (ℓ : Loc nD τ sig) → Buf (Elt Ideal) ℓ) (ρ : Dev nD → PrngReg)

theorem results (hA : ∀ c, (A m c).Finite) :
    θ_run defs (onTc (τ := τ) (main (F := Ideal))) ⟨m, fun _ => 0, ρ⟩ (fun r => ∀ c : Dev nD,
      r.2.mem ((c.tc : Thread nD τ).loc main_v47_0) = dkv m c ∧ r.2.mem ((c.tc : Thread nD τ).loc main_v47_1) = dkr m c) :=
  results_of m ρ (dats m) (dkv m) (dkr m) (fun c => final_kv m c (hA c)) (fun c => final_kr m c (hA c)) (run m ρ)

/-- The reference's results, from a memory that holds the same arguments. -/
theorem dkv_ref (c : Dev nD) (m' : (ℓ : Loc ReferenceIdeal.nD ReferenceIdeal.τ ReferenceIdeal.sig) → Buf (Elt Ideal) ℓ)
    (h0 : m' ((c.tc : Thread ReferenceIdeal.nD ReferenceIdeal.τ).loc ReferenceIdeal.main_arg0) = Host.a0 m c)
    (h1 : m' ((c.tc : Thread ReferenceIdeal.nD ReferenceIdeal.τ).loc ReferenceIdeal.main_arg1) = Host.a1 m c)
    (h2 : m' ((c.tc : Thread ReferenceIdeal.nD ReferenceIdeal.τ).loc ReferenceIdeal.main_arg2) = Host.a2 m c)
    (h3 : m' ((c.tc : Thread ReferenceIdeal.nD ReferenceIdeal.τ).loc ReferenceIdeal.main_arg3) = Host.a3 m c)
    (h4 : m' ((c.tc : Thread ReferenceIdeal.nD ReferenceIdeal.τ).loc ReferenceIdeal.main_arg4) = Host.a4 m c) :
    Cert.ReferenceIdeal.Value.res_main_v84 m' c = dkv m c := by
  refine (Cert.ReferenceIdeal.Read.val_main_v84_eq m' c).trans ?_
  rw [h0, h1, h2, h3, h4]
  exact (dkv_def m c).symm

theorem dkr_ref (c : Dev nD) (m' : (ℓ : Loc ReferenceIdeal.nD ReferenceIdeal.τ ReferenceIdeal.sig) → Buf (Elt Ideal) ℓ)
    (h0 : m' ((c.tc : Thread ReferenceIdeal.nD ReferenceIdeal.τ).loc ReferenceIdeal.main_arg0) = Host.a0 m c)
    (h1 : m' ((c.tc : Thread ReferenceIdeal.nD ReferenceIdeal.τ).loc ReferenceIdeal.main_arg1) = Host.a1 m c)
    (h2 : m' ((c.tc : Thread ReferenceIdeal.nD ReferenceIdeal.τ).loc ReferenceIdeal.main_arg2) = Host.a2 m c)
    (h3 : m' ((c.tc : Thread ReferenceIdeal.nD ReferenceIdeal.τ).loc ReferenceIdeal.main_arg3) = Host.a3 m c)
    (h4 : m' ((c.tc : Thread ReferenceIdeal.nD ReferenceIdeal.τ).loc ReferenceIdeal.main_arg4) = Host.a4 m c) :
    Cert.ReferenceIdeal.Value.res_main_v79 m' c = dkr m c := by
  have e : Cert.ReferenceIdeal.Value.res_main_v79 m' c
      = Cert.ReferenceIdeal.Read.val_main_v79 (F := Ideal) (Host.a0 m c) (Host.a1 m c) (Host.a2 m c) (Host.a3 m c) (Host.a4 m c) := by
    rw [Cert.ReferenceIdeal.Read.val_main_v79_eq, h0, h1, h2, h3, h4]
  exact e.trans (dkr_def m c).symm

end Cert.KernelIdeal.Grid

end
-- ==== Proof.Runs.lean ====
/-
  A sum accumulated over a run of grid points.
-/
module

public import Mathlib.Data.EReal.Operations
public import Mathlib.Algebra.BigOperators.Fin

@[expose] public section

namespace Cert.Runs

theorem pt_lt {N Q K : ℕ} (hN : N = Q * (K + 1)) (q : Fin Q) (k : Fin (K + 1)) : (K + 1) * q.val + k.val < N := by
  have h : (K + 1) * q.val + (K + 1) ≤ Q * (K + 1) :=
    (by ring : (K + 1) * q.val + (K + 1) = (q.val + 1) * (K + 1)).le.trans (Nat.mul_le_mul_right _ q.isLt)
  omega

/-- The `k`-th point of the `q`-th run of `K + 1` points. -/
abbrev pt {N Q K : ℕ} (hN : N = Q * (K + 1)) (q : Fin Q) (k : Fin (K + 1)) : Fin N := ⟨(K + 1) * q.val + k.val, pt_lt hN q k⟩

/-- A number that a run's first point sets to its term, and every later one adds its own to, is at any point of the run
    the terms so far; -/
theorem partial_sum {N Q K : ℕ} (hN : N = Q * (K + 1)) (f : (n : ℕ) → n < N → EReal) (T : Fin Q → Fin (K + 1) → EReal)
    (h0 : ∀ q, f (pt hN q 0).val (pt hN q 0).isLt = T q 0)
    (hs : ∀ q (k : Fin (K + 1)) (h : (pt hN q k).val - 1 < N), k.val ≠ 0 →
      f (pt hN q k).val (pt hN q k).isLt = f ((pt hN q k).val - 1) h + T q k)
    (q : Fin Q) (n : ℕ) (hn : n < K + 1) :
    f (pt hN q ⟨n, hn⟩).val (pt hN q ⟨n, hn⟩).isLt = ∑ i : Fin (n + 1), T q ⟨i.val, by omega⟩ := by
  induction n with
  | zero => rw [Fin.sum_univ_one]; exact h0 q
  | succ n ih =>
    rw [Fin.sum_univ_castSucc, hs q ⟨n + 1, hn⟩ (Nat.lt_of_le_of_lt (Nat.sub_le _ _) (pt hN q ⟨n + 1, hn⟩).isLt) (Nat.succ_ne_zero n)]
    exact congrArg (· + T q ⟨n + 1, hn⟩) (ih (by omega))

/-- at its last point, all of them. -/
theorem run_sum {N Q K : ℕ} (hN : N = Q * (K + 1)) (f : (n : ℕ) → n < N → EReal) (T : Fin Q → Fin (K + 1) → EReal)
    (h0 : ∀ q, f (pt hN q 0).val (pt hN q 0).isLt = T q 0)
    (hs : ∀ q (k : Fin (K + 1)) (h : (pt hN q k).val - 1 < N), k.val ≠ 0 →
      f (pt hN q k).val (pt hN q k).isLt = f ((pt hN q k).val - 1) h + T q k)
    (q : Fin Q) : f (pt hN q (Fin.last K)).val (pt hN q (Fin.last K)).isLt = ∑ k, T q k :=
  partial_sum hN f T h0 hs q K (Nat.lt_succ_self K)

end Cert.Runs
-- ==== Proof.InputGrad.lean ====
/-
  The gradient of the first product's input, `d_h1`: a product of the gradient of what the layer projects and of the
  weight, accumulated over eight blocks of the 13312 columns, is the derivative's one product.
-/
module

public import proofs.«01_k».proof.Defs
public import proofs.«01_k».proof.Proof.Runs
public import proofs.«01_k».proof.Proof.Gen.Kernel2Ideal.Value
public import proofs.«01_k».proof.Proof.Gen.Reference2Ideal.Run
public import Idealize.ShloMosaic.Lib.Pointwise
public import Idealize.ShloMosaic.Lib.Pipeline.ValueKit
public import Idealize.ShloMosaic.Lib.Pipeline.ReadBack

@[expose] public section

set_option maxRecDepth 16384
set_option maxHeartbeats 2000000

noncomputable section

namespace Cert.Kernel2Ideal.Product

open Idealize.ShloMosaic Idealize.ShloMosaic.TcCoe Idealize.SL.Sem Idealize.ShloMosaic.Tactic
open Cert.Kernel2Ideal Cert.Kernel2Ideal.Gen

theorem points : cfg0.N = 16 * (7 + 1) := N_0

/-- The `k`-th of the eight points of an output block. -/
abbrev pt (q : Fin 16) (k : Fin 8) : Fin cfg0.N := Runs.pt (K := 7) points q k

/-- The rows and columns of an output block, and the columns of the `k`-th block. -/
abbrev row (q : Fin 16) (a : Fin 1024) : Fin 8192 := ⟨q.val / 2 * 1024 + a.val, by omega⟩
abbrev col (q : Fin 16) (b : Fin 1024) : Fin 2048 := ⟨q.val % 2 * 1024 + b.val, by omega⟩
abbrev mid (k : Fin 8) (l : Fin 1664) : Fin 13312 := ⟨k.val * 1664 + l.val, by omega⟩

theorem idx_x : ∀ (q : Fin 16) (k : Fin 8), win0_0.index (pt q k) = ![q.val / 2, k.val] := by decide +kernel
theorem idx_w : ∀ (q : Fin 16) (k : Fin 8), win0_1.index (pt q k) = ![q.val % 2, k.val] := by decide +kernel
theorem idx_o : ∀ (q : Fin 16) (k : Fin 8), win0_2.index (pt q k) = ![q.val / 2, q.val % 2] := by decide +kernel

section Windows

variable {F : FTy → Type} [FloatOps F] (q : Fin 16) (k : Fin 8)

theorem blk_x (X : Vec F S8192x13312 .bf16) (a : Fin 1024) (l : Fin 1664) :
    ((cfg0.win 0).blk (pt q k)).view.read (Elt F) X (ix2 a l) = X (ix2 (row q a) (mid k l)) := by
  blk_ext [idx_x q k]

theorem blk_w (X : Vec F S2048x13312 .bf16) (b : Fin 1024) (l : Fin 1664) :
    ((cfg0.win 1).blk (pt q k)).view.read (Elt F) X (ix2 b l) = X (ix2 (col q b) (mid k l)) := by
  blk_ext [idx_w q k]

theorem emb_o (a b : Fin 1024) : ((cfg0.win 2).blk (pt q k)).view.emb (ix2 a b) = ix2 (row q a) (col q b) := by
  blk_ext [idx_o q k]

end Windows

theorem pay_zero (a b : Fin 1024) : (k0_pay1 (F := Ideal)) (ix2 a b) = 0 := by pointwise [k0_pay1]

theorem pay_add (v : Vec Ideal S1024x1024 .f32) (x w : Vec Ideal S1024x1664 .bf16) (a b : Fin 1024) :
    k0_pay2 v x w (ix2 a b) = v (ix2 a b) + ∑ l, x (ix2 a l) * w (ix2 b l) := by pointwise [k0_pay2]

variable (m : (ℓ : Loc nD τ sig) → Buf (Elt Ideal) ℓ) (c : Dev nD)

/-- The arguments: the gradient and the weight. -/
abbrev x : FVec Ideal S8192x13312 .bf16 := m ((c : Thread nD τ).loc main_arg0)
abbrev w : FVec Ideal S2048x13312 .bf16 := m ((c : Thread nD τ).loc main_arg1)

theorem in_x (q : Fin 16) (k : Fin 8) (a : Fin 1024) (l : Fin 1664) :
    iblk m c 0 (pt q k) (ix2 a l) = x m c (ix2 (row q a) (mid k l)) :=
  (blk_x q k (V m c main_arg0) a l).trans (congrFun (V_main_arg0 m c) _)

theorem in_w (q : Fin 16) (k : Fin 8) (b : Fin 1024) (l : Fin 1664) :
    iblk m c 1 (pt q k) (ix2 b l) = w m c (ix2 (col q b) (mid k l)) :=
  (blk_w q k (V m c main_arg1) b l).trans (congrFun (V_main_arg1 m c) _)

/-- What a point adds to an entry of the accumulator. -/
def term (a b : Fin 1024) (q : Fin 16) (k : Fin 8) : EReal :=
  ∑ l, x m c (ix2 (row q a) (mid k l)) * w m c (ix2 (col q b) (mid k l))

theorem first (q : Fin 16) (a b : Fin 1024) : (outsAt0 m c (pt q 0).val (pt q 0).isLt).2 (ix2 a b) = term m c a b q 0 := by
  rw [outsAt0_A m c (pt q 0) (by show (8 * q.val + 0) % 8 = 0; omega) (by show ¬(8 * q.val + 0) % 8 = 7; omega)]
  frame_out
  rw [pay_add, pay_zero, zero_add]
  exact Finset.sum_congr rfl fun l _ => by rw [in_x, in_w]

theorem later (q : Fin 16) (k : Fin 8) (h : (pt q k).val - 1 < cfg0.N) (hk : k.val ≠ 0) (a b : Fin 1024) :
    (outsAt0 m c (pt q k).val (pt q k).isLt).2 (ix2 a b)
      = (outsAt0 m c ((pt q k).val - 1) h).2 (ix2 a b) + term m c a b q k := by
  have h0 : ¬(pt q k).val % 8 = 0 := by show ¬(8 * q.val + k.val) % 8 = 0; omega
  by_cases h1 : (pt q k).val % 8 = 7
  · rw [outsAt0_C m c (pt q k) h0 h1]
    frame_out
    rw [pay_add, read_unread_whole]
    exact congrArg ((outsAt0 m c ((pt q k).val - 1) h).2 (ix2 a b) + ·) (Finset.sum_congr rfl fun l _ => by rw [in_x, in_w])
  · rw [outsAt0_B m c (pt q k) h0 h1]
    frame_out
    rw [pay_add, read_unread_whole]
    exact congrArg ((outsAt0 m c ((pt q k).val - 1) h).2 (ix2 a b) + ·) (Finset.sum_congr rfl fun l _ => by rw [in_x, in_w])

/-- A run's last point stores the accumulator. -/
theorem stored (q : Fin 16) (a b : Fin 1024) :
    (outsAt0 m c (pt q 7).val (pt q 7).isLt).1 (ix2 a b) = (outsAt0 m c (pt q 7).val (pt q 7).isLt).2 (ix2 a b) := by
  rw [outsAt0_C m c (pt q 7) (by show ¬(8 * q.val + 7) % 8 = 0; omega) (by show (8 * q.val + 7) % 8 = 7; omega)]
  frame_out

/-- It is the sum over all 13312 columns. -/
theorem entry (q : Fin 16) (a b : Fin 1024) : (outsAt0 m c (pt q 7).val (pt q 7).isLt).1 (ix2 a b)
    = ∑ l, x m c (ix2 (row q a) l) * w m c (ix2 (col q b) l) :=
  (stored m c q a b).trans ((Runs.run_sum points (fun n h => (outsAt0 m c n h).2 (ix2 a b)) (term m c a b)
    (fun q => first m c q a b) (fun q k h hk => later m c q k h hk a b) q).trans
    (Fin.sum_univ_tiles 8 1664 rfl fun l => x m c (ix2 (row q a) l) * w m c (ix2 (col q b) l)).symm)

/-- The derivative's product, on the call's arguments. -/
@[irreducible] def product : FVec Ideal S8192x2048 .f32 :=
  Host.dotGeneral Cert.Reference2Ideal.dot_S8192x13312_S2048x13312_S8192x2048_1_1_0_0_n_n none
    (extf .f32 (x m c) Cert.Reference2Ideal.Facts₀.bitsLt_bf16_f32) (extf .f32 (w m c) Cert.Reference2Ideal.Facts₀.bitsLt_bf16_f32)

theorem product_apply (i : Fin 8192) (j : Fin 2048) :
    product m c (ix2 i j) = ∑ l, x m c (ix2 i l) * w m c (ix2 j l) := by
  unfold product
  pointwise []

theorem final : (dats m 0 c).arrAt 2 cfg0.N = product m c := by
  refine (dats m 0 c).arrAt_eq_of_covers 2 _ (by decide +kernel) fun t hf y => ?_
  obtain ⟨q, rfl⟩ : ∃ q : Fin 16, t = pt q 7 := by
    have h7 : t.val % 8 = 7 := (flush0_2 t).mp hf
    have ht := lt_of_lt_of_eq t.isLt points
    exact ⟨⟨t.val / 8, by omega⟩, Fin.ext (by show t.val = 8 * (t.val / 8) + 7; omega)⟩
  blk_simp
  rw [after0_2]
  obtain ⟨a, b, rfl⟩ : ∃ a b : Fin 1024, y = ix2 a b := ⟨y 0, y 1, eq_ix2 y⟩
  exact (entry m c q a b).trans ((product_apply m c _ _).symm.trans (congrArg (product m c) (emb_o q 7 a b).symm))

/-- The call and the derivative end with the same array. -/
theorem algebraic : Cert.algebraic_Kernel2Ideal_Reference2Ideal (hKernel2Ideal := facts)
    (hReference2Ideal := Cert.Reference2Ideal.Gen.facts) := by
  intro m g m' g' _ hargs
  refine ⟨product m, (θ_run _ _ _).mono (fun r h c => ⟨(h c).1.trans (final m c), (h c).2⟩) (Cert.Kernel2Ideal.Value.run_blocks m g),
    (θ_run _ _ _).mono (fun r h c => ⟨(h c).1.trans ?_, (h c).2⟩) (Cert.Reference2Ideal.Value.run (F := Ideal) m' g')⟩
  unfold product
  rw [(hargs c).1, (hargs c).2]

end Cert.Kernel2Ideal.Product

end
-- ==== Proof.WeightGrad.lean ====
/-
  The gradient of the weight of the feed-forward block's first product, `dw_up`: a product of that product's input and of its
  result's gradient, accumulated over eight blocks of the 8192 rows and stored as one array per owner of a quarter of the
  columns, is the derivative's one product, its columns cut in four.
-/
module

public import proofs.«01_k».proof.Defs
public import proofs.«01_k».proof.Proof.Runs
public import proofs.«01_k».proof.Proof.Gen.Kernel3Ideal.Value
public import proofs.«01_k».proof.Proof.Gen.Reference3Ideal.Run
public import Idealize.ShloMosaic.Lib.Pointwise
public import Idealize.ShloMosaic.Lib.Pipeline.ValueKit
public import Idealize.ShloMosaic.Lib.Pipeline.ReadBack

@[expose] public section

set_option maxRecDepth 16384
set_option maxHeartbeats 2000000

noncomputable section

namespace Cert.Kernel3Ideal.Product

open Idealize.ShloMosaic Idealize.ShloMosaic.TcCoe Idealize.SL.Sem Idealize.ShloMosaic.Tactic
open Cert.Kernel3Ideal Cert.Kernel3Ideal.Gen

theorem points : cfg0.N = 16 * (7 + 1) := N_0

/-- The `k`-th of the eight points of an output block. -/
abbrev pt (q : Fin 16) (k : Fin 8) : Fin cfg0.N := Runs.pt (K := 7) points q k

/-- The rows and columns of an output block, the owner of those columns and their place with that owner, and the rows of
    the `k`-th block that is summed over. -/
abbrev row (q : Fin 16) (a : Fin 1024) : Fin 2048 := ⟨q.val / 8 * 1024 + a.val, by omega⟩
abbrev col (q : Fin 16) (b : Fin 1408) : Fin 11264 := ⟨q.val % 8 * 1408 + b.val, by omega⟩
abbrev own (q : Fin 16) : Fin 4 := ⟨q.val % 8 / 2, by omega⟩
abbrev loc (q : Fin 16) (b : Fin 1408) : Fin 2816 := ⟨q.val % 8 % 2 * 1408 + b.val, by omega⟩
abbrev mid (k : Fin 8) (l : Fin 1024) : Fin 8192 := ⟨k.val * 1024 + l.val, by omega⟩

/-- The column that an owner's `j`-th is. -/
abbrev whole (o : Fin 4) (j : Fin 2816) : Fin 11264 := ⟨o.val * 2816 + j.val, by omega⟩

theorem whole_loc (q : Fin 16) (b : Fin 1408) : whole (own q) (loc q b) = col q b :=
  Fin.ext (by show q.val % 8 / 2 * 2816 + (q.val % 8 % 2 * 1408 + b.val) = q.val % 8 * 1408 + b.val; omega)

theorem idx_x : ∀ (q : Fin 16) (k : Fin 8), win0_0.index (pt q k) = ![k.val, q.val / 8] := by decide +kernel
theorem idx_y : ∀ (q : Fin 16) (k : Fin 8), win0_1.index (pt q k) = ![k.val, q.val % 8] := by decide +kernel
theorem idx_o : ∀ (q : Fin 16) (k : Fin 8), win0_2.index (pt q k) = ![q.val % 8 / 2, q.val / 8, q.val % 8 % 2] := by decide +kernel

section Windows

variable {F : FTy → Type} [FloatOps F] (q : Fin 16) (k : Fin 8)

theorem blk_x (X : Vec F S8192x2048 .bf16) (l : Fin 1024) (a : Fin 1024) :
    ((cfg0.win 0).blk (pt q k)).view.read (Elt F) X (ix2 l a) = X (ix2 (mid k l) (row q a)) := by
  blk_ext [idx_x q k]

theorem blk_y (X : Vec F S8192x11264 .bf16) (l : Fin 1024) (b : Fin 1408) :
    ((cfg0.win 1).blk (pt q k)).view.read (Elt F) X (ix2 l b) = X (ix2 (mid k l) (col q b)) := by
  blk_ext [idx_y q k]

theorem emb_o (u : Fin 1) (a : Fin 1024) (b : Fin 1408) :
    ((cfg0.win 2).blk (pt q k)).view.emb (ix3 u a b) = ix3 (own q) (row q a) (loc q b) := by
  blk_ext [idx_o q k]

end Windows

theorem pay_zero (a : Fin 1024) (b : Fin 1408) : (k0_pay1 (F := Ideal)) (ix2 a b) = 0 := by pointwise [k0_pay1]

theorem pay_add (v : Vec Ideal S1024x1408 .f32) (x : Vec Ideal S1024x1024 .bf16) (y : Vec Ideal S1024x1408 .bf16)
    (a : Fin 1024) (b : Fin 1408) :
    k0_pay2 v x y (ix2 a b) = v (ix2 a b) + ∑ l, x (ix2 l a) * y (ix2 l b) := by pointwise [k0_pay2]

theorem pay_out (v : Vec Ideal S1024x1408 .f32) (u : Fin 1) (a : Fin 1024) (b : Fin 1408) :
    k0_pay3 v (ix3 u a b) = v (ix2 a b) := by pointwise [k0_pay3]

variable (m : (ℓ : Loc nD τ sig) → Buf (Elt Ideal) ℓ) (c : Dev nD)

/-- The arguments: the product's input and its result's gradient. -/
abbrev x : FVec Ideal S8192x2048 .bf16 := m ((c : Thread nD τ).loc main_arg0)
abbrev y : FVec Ideal S8192x11264 .bf16 := m ((c : Thread nD τ).loc main_arg1)

theorem in_x (q : Fin 16) (k : Fin 8) (l : Fin 1024) (a : Fin 1024) :
    iblk m c 0 (pt q k) (ix2 l a) = x m c (ix2 (mid k l) (row q a)) :=
  (blk_x q k (V m c main_arg0) l a).trans (congrFun (V_main_arg0 m c) _)

theorem in_y (q : Fin 16) (k : Fin 8) (l : Fin 1024) (b : Fin 1408) :
    iblk m c 1 (pt q k) (ix2 l b) = y m c (ix2 (mid k l) (col q b)) :=
  (blk_y q k (V m c main_arg1) l b).trans (congrFun (V_main_arg1 m c) _)

/-- What a point adds to an entry of the accumulator. -/
def term (a : Fin 1024) (b : Fin 1408) (q : Fin 16) (k : Fin 8) : EReal :=
  ∑ l, x m c (ix2 (mid k l) (row q a)) * y m c (ix2 (mid k l) (col q b))

theorem first (q : Fin 16) (a : Fin 1024) (b : Fin 1408) :
    (outsAt0 m c (pt q 0).val (pt q 0).isLt).2 (ix2 a b) = term m c a b q 0 := by
  rw [outsAt0_A m c (pt q 0) (by show (8 * q.val + 0) % 8 = 0; omega) (by show ¬(8 * q.val + 0) % 8 = 7; omega)]
  frame_out
  rw [pay_add, pay_zero, zero_add]
  exact Finset.sum_congr rfl fun l _ => by rw [in_x, in_y]

theorem later (q : Fin 16) (k : Fin 8) (h : (pt q k).val - 1 < cfg0.N) (hk : k.val ≠ 0) (a : Fin 1024) (b : Fin 1408) :
    (outsAt0 m c (pt q k).val (pt q k).isLt).2 (ix2 a b)
      = (outsAt0 m c ((pt q k).val - 1) h).2 (ix2 a b) + term m c a b q k := by
  have h0 : ¬(pt q k).val % 8 = 0 := by show ¬(8 * q.val + k.val) % 8 = 0; omega
  by_cases h1 : (pt q k).val % 8 = 7
  · rw [outsAt0_C m c (pt q k) h0 h1]
    frame_out
    rw [pay_add, read_unread_whole]
    exact congrArg ((outsAt0 m c ((pt q k).val - 1) h).2 (ix2 a b) + ·) (Finset.sum_congr rfl fun l _ => by rw [in_x, in_y])
  · rw [outsAt0_B m c (pt q k) h0 h1]
    frame_out
    rw [pay_add, read_unread_whole]
    exact congrArg ((outsAt0 m c ((pt q k).val - 1) h).2 (ix2 a b) + ·) (Finset.sum_congr rfl fun l _ => by rw [in_x, in_y])

/-- A run's last point stores the accumulator. -/
theorem stored (q : Fin 16) (u : Fin 1) (a : Fin 1024) (b : Fin 1408) :
    (outsAt0 m c (pt q 7).val (pt q 7).isLt).1 (ix3 u a b) = (outsAt0 m c (pt q 7).val (pt q 7).isLt).2 (ix2 a b) := by
  rw [outsAt0_C m c (pt q 7) (by show ¬(8 * q.val + 7) % 8 = 0; omega) (by show (8 * q.val + 7) % 8 = 7; omega)]
  frame_out
  exact pay_out _ u a b

/-- It is the sum over all 8192 rows. -/
theorem entry (q : Fin 16) (u : Fin 1) (a : Fin 1024) (b : Fin 1408) : (outsAt0 m c (pt q 7).val (pt q 7).isLt).1 (ix3 u a b)
    = ∑ l, x m c (ix2 l (row q a)) * y m c (ix2 l (col q b)) :=
  (stored m c q u a b).trans ((Runs.run_sum points (fun n h => (outsAt0 m c n h).2 (ix2 a b)) (term m c a b)
    (fun q => first m c q a b) (fun q k h hk => later m c q k h hk a b) q).trans
    (Fin.sum_univ_tiles 8 1024 rfl fun l => x m c (ix2 l (row q a)) * y m c (ix2 l (col q b))).symm)

/-- The derivative's product, on the call's arguments, its columns cut in four. -/
@[irreducible] def product : FVec Ideal S4x2048x2816 .bf16 :=
  truncf .bf16 (transpose Cert.Reference3Ideal.S4x2048x2816 [1, 0, 2] (shapeCast Cert.Reference3Ideal.S2048x4x2816
    (transpose Cert.Reference3Ideal.S2048x11264 [1, 0] (Host.dotGeneral Cert.Reference3Ideal.dot_S8192x11264_S8192x2048_S11264x2048_0_0_1_1_n_n none
      (extf .f32 (y m c) Cert.Reference3Ideal.Facts₀.bitsLt_bf16_f32) (extf .f32 (x m c) Cert.Reference3Ideal.Facts₀.bitsLt_bf16_f32))
      Cert.Reference3Ideal.Facts₀.transposes_S11264x2048_S2048x11264_1_0) Cert.Reference3Ideal.Facts₀.shapeCasts_S2048x11264_S2048x4x2816)
    Cert.Reference3Ideal.Facts₀.transposes_S2048x4x2816_S4x2048x2816_1_0_2) Cert.Reference3Ideal.Facts₀.bitsLt_bf16_f32

theorem product_apply (o : Fin 4) (i : Fin 2048) (j : Fin 2816) :
    product m c (ix3 o i j) = ∑ l, x m c (ix2 l i) * y m c (ix2 l (whole o j)) := by
  unfold product
  refine Eq.trans (b := ∑ l, y m c (ix2 l (whole o j)) * x m c (ix2 l i)) ?_ (Finset.sum_congr rfl fun l _ => mul_comm _ _)
  pointwise []

theorem final : (dats m 0 c).arrAt 2 cfg0.N = product m c := by
  refine (dats m 0 c).arrAt_eq_of_covers 2 _ (by decide +kernel) fun t hf y' => ?_
  obtain ⟨q, rfl⟩ : ∃ q : Fin 16, t = pt q 7 := by
    have h7 : t.val % 8 = 7 := (flush0_2 t).mp hf
    have ht := lt_of_lt_of_eq t.isLt points
    exact ⟨⟨t.val / 8, by omega⟩, Fin.ext (by show t.val = 8 * (t.val / 8) + 7; omega)⟩
  blk_simp
  rw [after0_2]
  obtain ⟨u, a, b, rfl⟩ : ∃ (u : Fin 1) (a : Fin 1024) (b : Fin 1408), y' = ix3 u a b := ⟨y' 0, y' 1, y' 2, eq_ix3 y'⟩
  refine (entry m c q u a b).trans (Eq.trans ?_ (congrArg (product m c) (emb_o q 7 u a b).symm))
  rw [product_apply, whole_loc]

/-- The call and the derivative end with the same array. -/
theorem algebraic : Cert.algebraic_Kernel3Ideal_Reference3Ideal (hKernel3Ideal := facts)
    (hReference3Ideal := Cert.Reference3Ideal.Gen.facts) := by
  intro m g m' g' _ hargs
  refine ⟨product m, (θ_run _ _ _).mono (fun r h c => ⟨(h c).1.trans (final m c), (h c).2⟩) (Cert.Kernel3Ideal.Value.run_blocks m g),
    (θ_run _ _ _).mono (fun r h c => ⟨(h c).1.trans ?_, (h c).2⟩) (Cert.Reference3Ideal.Value.run (F := Ideal) m' g')⟩
  unfold product
  rw [(hargs c).1, (hargs c).2]

end Cert.Kernel3Ideal.Product

end
-- ==== Proof.Project.lean ====
/-
  The first product, `proj`: the normalised input times the weight, a block of the result at a point, is the one plain product.
-/
module

public import proofs.«01_k».proof.Defs
public import proofs.«01_k».proof.Proof.Gen.Kernel4Ideal.Value
public import proofs.«01_k».proof.Proof.Gen.Reference4Ideal.Run
public import Idealize.ShloMosaic.Lib.Pointwise
public import Idealize.ShloMosaic.Lib.Pipeline.ValueKit

@[expose] public section

set_option maxRecDepth 16384
set_option maxHeartbeats 2000000

noncomputable section

namespace Cert.Kernel4Ideal.Product

open Idealize.ShloMosaic Idealize.ShloMosaic.TcCoe Idealize.SL.Sem Idealize.ShloMosaic.Tactic
open Cert.Kernel4Ideal Cert.Kernel4Ideal.Gen

theorem points : cfg0.N = 104 := N_0

/-- The rows and columns of the output block of a point. -/
abbrev row (t : Fin cfg0.N) (a : Fin 1024) : Fin 8192 :=
  ⟨t.val / 13 * 1024 + a.val, by have ht := lt_of_lt_of_eq t.isLt points; omega⟩
abbrev col (t : Fin cfg0.N) (b : Fin 1024) : Fin 13312 := ⟨t.val % 13 * 1024 + b.val, by omega⟩

theorem idx_x : ∀ t : Fin cfg0.N, win0_0.index t = ![t.val / 13, 0] := by decide +kernel
theorem idx_w : ∀ t : Fin cfg0.N, win0_1.index t = ![0, t.val % 13] := by decide +kernel
theorem idx_o : ∀ t : Fin cfg0.N, win0_2.index t = ![t.val / 13, t.val % 13] := by decide +kernel

section Windows

variable {F : FTy → Type} [FloatOps F] (t : Fin cfg0.N)

theorem blk_x (X : Vec F S8192x2048 .bf16) (a : Fin 1024) (l : Fin 2048) :
    ((cfg0.win 0).blk t).view.read (Elt F) X (ix2 a l) = X (ix2 (row t a) l) := by
  blk_ext [idx_x t]

theorem blk_w (X : Vec F S2048x13312 .bf16) (l : Fin 2048) (b : Fin 1024) :
    ((cfg0.win 1).blk t).view.read (Elt F) X (ix2 l b) = X (ix2 l (col t b)) := by
  blk_ext [idx_w t]

theorem emb_o (a b : Fin 1024) : ((cfg0.win 2).blk t).view.emb (ix2 a b) = ix2 (row t a) (col t b) := by
  blk_ext [idx_o t]

end Windows

theorem pay_zero (a b : Fin 1024) : (k0_pay1 (F := Ideal)) (ix2 a b) = 0 := by pointwise [k0_pay1]

theorem pay_add (v : Vec Ideal S1024x1024 .f32) (x : Vec Ideal S1024x2048 .bf16) (w : Vec Ideal S2048x1024 .bf16) (a b : Fin 1024) :
    k0_pay2 v x w (ix2 a b) = v (ix2 a b) + ∑ l, x (ix2 a l) * w (ix2 l b) := by pointwise [k0_pay2]

variable (m : (ℓ : Loc nD τ sig) → Buf (Elt Ideal) ℓ) (c : Dev nD)

/-- The arguments: the input and the weight. -/
abbrev x : FVec Ideal S8192x2048 .bf16 := m ((c : Thread nD τ).loc main_arg0)
abbrev w : FVec Ideal S2048x13312 .bf16 := m ((c : Thread nD τ).loc main_arg1)

theorem in_x (t : Fin cfg0.N) (a : Fin 1024) (l : Fin 2048) : iblk m c 0 t (ix2 a l) = x m c (ix2 (row t a) l) :=
  (blk_x t (V m c main_arg0) a l).trans (congrFun (V_main_arg0 m c) _)

theorem in_w (t : Fin cfg0.N) (l : Fin 2048) (b : Fin 1024) : iblk m c 1 t (ix2 l b) = w m c (ix2 l (col t b)) :=
  (blk_w t (V m c main_arg1) l b).trans (congrFun (V_main_arg1 m c) _)

/-- A point clears the accumulator, adds the product of its two blocks and stores it. -/
theorem entry (t : Fin cfg0.N) (a b : Fin 1024) :
    outsAt0 m c t (ix2 a b) = ∑ l, x m c (ix2 (row t a) l) * w m c (ix2 l (col t b)) := by
  unfold outsAt0
  frame_out
  rw [pay_add, pay_zero, zero_add]
  exact Finset.sum_congr rfl fun l _ => by rw [in_x, in_w]

/-- The plain product, on the call's arguments. -/
@[irreducible] def product : FVec Ideal S8192x13312 .f32 :=
  Host.dotGeneral Cert.Reference4Ideal.dot_S8192x2048_S2048x13312_S8192x13312_1_0_0_1_n_n none
    (extf .f32 (x m c) Cert.Reference4Ideal.Facts₀.bitsLt_bf16_f32) (extf .f32 (w m c) Cert.Reference4Ideal.Facts₀.bitsLt_bf16_f32)

theorem product_apply (i : Fin 8192) (j : Fin 13312) :
    product m c (ix2 i j) = ∑ l, x m c (ix2 i l) * w m c (ix2 l j) := by
  unfold product
  pointwise []

theorem final : (dats m 0 c).arrAt 2 cfg0.N = product m c := by
  refine (dats m 0 c).arrAt_eq_of_covers 2 _ (by decide +kernel) fun t hf y => ?_
  blk_simp
  rw [after0_2]
  obtain ⟨a, b, rfl⟩ : ∃ a b : Fin 1024, y = ix2 a b := ⟨y 0, y 1, eq_ix2 y⟩
  exact (entry m c t a b).trans ((product_apply m c _ _).symm.trans (congrArg (product m c) (emb_o t a b).symm))

/-- The call and the plain product end with the same array. -/
theorem algebraic : Cert.algebraic_Kernel4Ideal_Reference4Ideal (hKernel4Ideal := facts)
    (hReference4Ideal := Cert.Reference4Ideal.Gen.facts) := by
  intro m g m' g' _ hargs
  refine ⟨product m, (θ_run _ _ _).mono (fun r h c => ⟨(h c).1.trans (final m c), (h c).2⟩) (Cert.Kernel4Ideal.Value.run_blocks m g),
    (θ_run _ _ _).mono (fun r h c => ⟨(h c).1.trans ?_, (h c).2⟩) (Cert.Reference4Ideal.Value.run (F := Ideal) m' g')⟩
  unfold product
  rw [(hargs c).1, (hargs c).2]

end Cert.Kernel4Ideal.Product

end
-- ==== Proof.ProjectGrad.lean ====
/-
  The gradient of the first product's weight, `dw_in`: a product of the normalised input and of the gradient of what the
  layer projects, accumulated over four blocks of the 8192 rows, is the derivative's one product.
-/
module

public import proofs.«01_k».proof.Defs
public import proofs.«01_k».proof.Proof.Runs
public import proofs.«01_k».proof.Proof.Gen.Kernel5Ideal.Value
public import proofs.«01_k».proof.Proof.Gen.Reference5Ideal.Run
public import Idealize.ShloMosaic.Lib.Pointwise
public import Idealize.ShloMosaic.Lib.Pipeline.ValueKit
public import Idealize.ShloMosaic.Lib.Pipeline.ReadBack

@[expose] public section

set_option maxRecDepth 16384
set_option maxHeartbeats 2000000

noncomputable section

namespace Cert.Kernel5Ideal.Product

open Idealize.ShloMosaic Idealize.ShloMosaic.TcCoe Idealize.SL.Sem Idealize.ShloMosaic.Tactic
open Cert.Kernel5Ideal Cert.Kernel5Ideal.Gen

theorem points : cfg0.N = 26 * (3 + 1) := N_0

/-- The `k`-th of the four points of an output block. -/
abbrev pt (q : Fin 26) (k : Fin 4) : Fin cfg0.N := Runs.pt (K := 3) points q k

/-- The rows and columns of an output block, and the rows of the `k`-th block that is summed over. -/
abbrev row (q : Fin 26) (a : Fin 1024) : Fin 2048 := ⟨q.val / 13 * 1024 + a.val, by omega⟩
abbrev col (q : Fin 26) (b : Fin 1024) : Fin 13312 := ⟨q.val % 13 * 1024 + b.val, by omega⟩
abbrev mid (k : Fin 4) (l : Fin 2048) : Fin 8192 := ⟨k.val * 2048 + l.val, by omega⟩

theorem idx_x : ∀ (q : Fin 26) (k : Fin 4), win0_0.index (pt q k) = ![k.val, q.val / 13] := by decide +kernel
theorem idx_y : ∀ (q : Fin 26) (k : Fin 4), win0_1.index (pt q k) = ![k.val, q.val % 13] := by decide +kernel
theorem idx_o : ∀ (q : Fin 26) (k : Fin 4), win0_2.index (pt q k) = ![q.val / 13, q.val % 13] := by decide +kernel

section Windows

variable {F : FTy → Type} [FloatOps F] (q : Fin 26) (k : Fin 4)

theorem blk_x (X : Vec F S8192x2048 .bf16) (l : Fin 2048) (a : Fin 1024) :
    ((cfg0.win 0).blk (pt q k)).view.read (Elt F) X (ix2 l a) = X (ix2 (mid k l) (row q a)) := by
  blk_ext [idx_x q k]

theorem blk_y (X : Vec F S8192x13312 .bf16) (l : Fin 2048) (b : Fin 1024) :
    ((cfg0.win 1).blk (pt q k)).view.read (Elt F) X (ix2 l b) = X (ix2 (mid k l) (col q b)) := by
  blk_ext [idx_y q k]

theorem emb_o (a b : Fin 1024) :
    ((cfg0.win 2).blk (pt q k)).view.emb (ix2 a b) = ix2 (row q a) (col q b) := by
  blk_ext [idx_o q k]

end Windows

theorem pay_zero (a b : Fin 1024) : (k0_pay1 (F := Ideal)) (ix2 a b) = 0 := by pointwise [k0_pay1]

theorem pay_add (v : Vec Ideal S1024x1024 .f32) (x y : Vec Ideal S2048x1024 .bf16)
    (a b : Fin 1024) :
    k0_pay2 v x y (ix2 a b) = v (ix2 a b) + ∑ l, x (ix2 l a) * y (ix2 l b) := by pointwise [k0_pay2]

theorem pay_out (v : Vec Ideal S1024x1024 .f32) (a b : Fin 1024) :
    k0_pay3 v (ix2 a b) = v (ix2 a b) := by pointwise [k0_pay3]

variable (m : (ℓ : Loc nD τ sig) → Buf (Elt Ideal) ℓ) (c : Dev nD)

/-- The arguments: the product's input and its result's gradient. -/
abbrev x : FVec Ideal S8192x2048 .bf16 := m ((c : Thread nD τ).loc main_arg0)
abbrev y : FVec Ideal S8192x13312 .bf16 := m ((c : Thread nD τ).loc main_arg1)

theorem in_x (q : Fin 26) (k : Fin 4) (l : Fin 2048) (a : Fin 1024) :
    iblk m c 0 (pt q k) (ix2 l a) = x m c (ix2 (mid k l) (row q a)) :=
  (blk_x q k (V m c main_arg0) l a).trans (congrFun (V_main_arg0 m c) _)

theorem in_y (q : Fin 26) (k : Fin 4) (l : Fin 2048) (b : Fin 1024) :
    iblk m c 1 (pt q k) (ix2 l b) = y m c (ix2 (mid k l) (col q b)) :=
  (blk_y q k (V m c main_arg1) l b).trans (congrFun (V_main_arg1 m c) _)

/-- What a point adds to an entry of the accumulator. -/
def term (a b : Fin 1024) (q : Fin 26) (k : Fin 4) : EReal :=
  ∑ l, x m c (ix2 (mid k l) (row q a)) * y m c (ix2 (mid k l) (col q b))

theorem first (q : Fin 26) (a b : Fin 1024) :
    (outsAt0 m c (pt q 0).val (pt q 0).isLt).2 (ix2 a b) = term m c a b q 0 := by
  rw [outsAt0_A m c (pt q 0) (by show (4 * q.val + 0) % 4 = 0; omega) (by show ¬(4 * q.val + 0) % 4 = 3; omega)]
  frame_out
  rw [pay_add, pay_zero, zero_add]
  exact Finset.sum_congr rfl fun l _ => by rw [in_x, in_y]

theorem later (q : Fin 26) (k : Fin 4) (h : (pt q k).val - 1 < cfg0.N) (hk : k.val ≠ 0) (a b : Fin 1024) :
    (outsAt0 m c (pt q k).val (pt q k).isLt).2 (ix2 a b)
      = (outsAt0 m c ((pt q k).val - 1) h).2 (ix2 a b) + term m c a b q k := by
  have h0 : ¬(pt q k).val % 4 = 0 := by show ¬(4 * q.val + k.val) % 4 = 0; omega
  by_cases h1 : (pt q k).val % 4 = 3
  · rw [outsAt0_C m c (pt q k) h0 h1]
    frame_out
    rw [pay_add, read_unread_whole]
    exact congrArg ((outsAt0 m c ((pt q k).val - 1) h).2 (ix2 a b) + ·) (Finset.sum_congr rfl fun l _ => by rw [in_x, in_y])
  · rw [outsAt0_B m c (pt q k) h0 h1]
    frame_out
    rw [pay_add, read_unread_whole]
    exact congrArg ((outsAt0 m c ((pt q k).val - 1) h).2 (ix2 a b) + ·) (Finset.sum_congr rfl fun l _ => by rw [in_x, in_y])

/-- A run's last point stores the accumulator. -/
theorem stored (q : Fin 26) (a b : Fin 1024) :
    (outsAt0 m c (pt q 3).val (pt q 3).isLt).1 (ix2 a b) = (outsAt0 m c (pt q 3).val (pt q 3).isLt).2 (ix2 a b) := by
  rw [outsAt0_C m c (pt q 3) (by show ¬(4 * q.val + 3) % 4 = 0; omega) (by show (4 * q.val + 3) % 4 = 3; omega)]
  frame_out
  exact pay_out _ a b

/-- It is the sum over all 8192 rows. -/
theorem entry (q : Fin 26) (a b : Fin 1024) : (outsAt0 m c (pt q 3).val (pt q 3).isLt).1 (ix2 a b)
    = ∑ l, x m c (ix2 l (row q a)) * y m c (ix2 l (col q b)) :=
  (stored m c q a b).trans ((Runs.run_sum points (fun n h => (outsAt0 m c n h).2 (ix2 a b)) (term m c a b)
    (fun q => first m c q a b) (fun q k h hk => later m c q k h hk a b) q).trans
    (Fin.sum_univ_tiles 4 2048 rfl fun l => x m c (ix2 l (row q a)) * y m c (ix2 l (col q b))).symm)

/-- The derivative's product, on the call's arguments. -/
@[irreducible] def product : FVec Ideal S2048x13312 .bf16 :=
  truncf .bf16 (transpose Cert.Reference5Ideal.S2048x13312 [1, 0] (Host.dotGeneral Cert.Reference5Ideal.dot_S8192x13312_S8192x2048_S13312x2048_0_0_1_1_n_n none
      (extf .f32 (y m c) Cert.Reference5Ideal.Facts₀.bitsLt_bf16_f32) (extf .f32 (x m c) Cert.Reference5Ideal.Facts₀.bitsLt_bf16_f32))
    Cert.Reference5Ideal.Facts₀.transposes_S13312x2048_S2048x13312_1_0) Cert.Reference5Ideal.Facts₀.bitsLt_bf16_f32

theorem product_apply (i : Fin 2048) (j : Fin 13312) :
    product m c (ix2 i j) = ∑ l, x m c (ix2 l i) * y m c (ix2 l j) := by
  unfold product
  refine Eq.trans (b := ∑ l, y m c (ix2 l j) * x m c (ix2 l i)) ?_ (Finset.sum_congr rfl fun l _ => mul_comm _ _)
  pointwise []

theorem final : (dats m 0 c).arrAt 2 cfg0.N = product m c := by
  refine (dats m 0 c).arrAt_eq_of_covers 2 _ (by decide +kernel) fun t hf y' => ?_
  obtain ⟨q, rfl⟩ : ∃ q : Fin 26, t = pt q 3 := by
    have h3 : t.val % 4 = 3 := (flush0_2 t).mp hf
    have ht := lt_of_lt_of_eq t.isLt points
    exact ⟨⟨t.val / 4, by omega⟩, Fin.ext (by show t.val = 4 * (t.val / 4) + 3; omega)⟩
  blk_simp
  rw [after0_2]
  obtain ⟨a, b, rfl⟩ : ∃ a b : Fin 1024, y' = ix2 a b := ⟨y' 0, y' 1, eq_ix2 y'⟩
  exact (entry m c q a b).trans ((product_apply m c _ _).symm.trans (congrArg (product m c) (emb_o q 3 a b).symm))

/-- The call and the derivative end with the same array. -/
theorem algebraic : Cert.algebraic_Kernel5Ideal_Reference5Ideal (hKernel5Ideal := facts)
    (hReference5Ideal := Cert.Reference5Ideal.Gen.facts) := by
  intro m g m' g' _ hargs
  refine ⟨product m, (θ_run _ _ _).mono (fun r h c => ⟨(h c).1.trans (final m c), (h c).2⟩) (Cert.Kernel5Ideal.Value.run_blocks m g),
    (θ_run _ _ _).mono (fun r h c => ⟨(h c).1.trans ?_, (h c).2⟩) (Cert.Reference5Ideal.Value.run (F := Ideal) m' g')⟩
  unfold product
  rw [(hargs c).1, (hargs c).2]

end Cert.Kernel5Ideal.Product

end
-- ==== Proof.Up.lean ====
/-
  The feed-forward block's first product, `w_up`: `Project`'s computation with 11264 columns.
-/
module

public import proofs.«01_k».proof.Defs
public import proofs.«01_k».proof.Proof.Gen.Kernel6Ideal.Value
public import proofs.«01_k».proof.Proof.Gen.Reference6Ideal.Run
public import Idealize.ShloMosaic.Lib.Pointwise
public import Idealize.ShloMosaic.Lib.Pipeline.ValueKit

@[expose] public section

set_option maxRecDepth 16384
set_option maxHeartbeats 2000000

noncomputable section

namespace Cert.Kernel6Ideal.Product

open Idealize.ShloMosaic Idealize.ShloMosaic.TcCoe Idealize.SL.Sem Idealize.ShloMosaic.Tactic
open Cert.Kernel6Ideal Cert.Kernel6Ideal.Gen

theorem points : cfg0.N = 88 := N_0

/-- The rows and columns of the output block of a point. -/
abbrev row (t : Fin cfg0.N) (a : Fin 1024) : Fin 8192 :=
  ⟨t.val / 11 * 1024 + a.val, by have ht := lt_of_lt_of_eq t.isLt points; omega⟩
abbrev col (t : Fin cfg0.N) (b : Fin 1024) : Fin 11264 := ⟨t.val % 11 * 1024 + b.val, by omega⟩

theorem idx_x : ∀ t : Fin cfg0.N, win0_0.index t = ![t.val / 11, 0] := by decide +kernel
theorem idx_w : ∀ t : Fin cfg0.N, win0_1.index t = ![0, t.val % 11] := by decide +kernel
theorem idx_o : ∀ t : Fin cfg0.N, win0_2.index t = ![t.val / 11, t.val % 11] := by decide +kernel

section Windows

variable {F : FTy → Type} [FloatOps F] (t : Fin cfg0.N)

theorem blk_x (X : Vec F S8192x2048 .bf16) (a : Fin 1024) (l : Fin 2048) :
    ((cfg0.win 0).blk t).view.read (Elt F) X (ix2 a l) = X (ix2 (row t a) l) := by
  blk_ext [idx_x t]

theorem blk_w (X : Vec F S2048x11264 .bf16) (l : Fin 2048) (b : Fin 1024) :
    ((cfg0.win 1).blk t).view.read (Elt F) X (ix2 l b) = X (ix2 l (col t b)) := by
  blk_ext [idx_w t]

theorem emb_o (a b : Fin 1024) : ((cfg0.win 2).blk t).view.emb (ix2 a b) = ix2 (row t a) (col t b) := by
  blk_ext [idx_o t]

end Windows

theorem pay_zero (a b : Fin 1024) : (k0_pay1 (F := Ideal)) (ix2 a b) = 0 := by pointwise [k0_pay1]

theorem pay_add (v : Vec Ideal S1024x1024 .f32) (x : Vec Ideal S1024x2048 .bf16) (w : Vec Ideal S2048x1024 .bf16) (a b : Fin 1024) :
    k0_pay2 v x w (ix2 a b) = v (ix2 a b) + ∑ l, x (ix2 a l) * w (ix2 l b) := by pointwise [k0_pay2]

variable (m : (ℓ : Loc nD τ sig) → Buf (Elt Ideal) ℓ) (c : Dev nD)

/-- The arguments: the input and the weight. -/
abbrev x : FVec Ideal S8192x2048 .bf16 := m ((c : Thread nD τ).loc main_arg0)
abbrev w : FVec Ideal S2048x11264 .bf16 := m ((c : Thread nD τ).loc main_arg1)

theorem in_x (t : Fin cfg0.N) (a : Fin 1024) (l : Fin 2048) : iblk m c 0 t (ix2 a l) = x m c (ix2 (row t a) l) :=
  (blk_x t (V m c main_arg0) a l).trans (congrFun (V_main_arg0 m c) _)

theorem in_w (t : Fin cfg0.N) (l : Fin 2048) (b : Fin 1024) : iblk m c 1 t (ix2 l b) = w m c (ix2 l (col t b)) :=
  (blk_w t (V m c main_arg1) l b).trans (congrFun (V_main_arg1 m c) _)

/-- A point clears the accumulator, adds the product of its two blocks and stores it. -/
theorem entry (t : Fin cfg0.N) (a b : Fin 1024) :
    outsAt0 m c t (ix2 a b) = ∑ l, x m c (ix2 (row t a) l) * w m c (ix2 l (col t b)) := by
  unfold outsAt0
  frame_out
  rw [pay_add, pay_zero, zero_add]
  exact Finset.sum_congr rfl fun l _ => by rw [in_x, in_w]

/-- The plain product, on the call's arguments. -/
@[irreducible] def product : FVec Ideal S8192x11264 .f32 :=
  Host.dotGeneral Cert.Reference6Ideal.dot_S8192x2048_S2048x11264_S8192x11264_1_0_0_1_n_n none
    (extf .f32 (x m c) Cert.Reference6Ideal.Facts₀.bitsLt_bf16_f32) (extf .f32 (w m c) Cert.Reference6Ideal.Facts₀.bitsLt_bf16_f32)

theorem product_apply (i : Fin 8192) (j : Fin 11264) :
    product m c (ix2 i j) = ∑ l, x m c (ix2 i l) * w m c (ix2 l j) := by
  unfold product
  pointwise []

theorem final : (dats m 0 c).arrAt 2 cfg0.N = product m c := by
  refine (dats m 0 c).arrAt_eq_of_covers 2 _ (by decide +kernel) fun t hf y => ?_
  blk_simp
  rw [after0_2]
  obtain ⟨a, b, rfl⟩ : ∃ a b : Fin 1024, y = ix2 a b := ⟨y 0, y 1, eq_ix2 y⟩
  exact (entry m c t a b).trans ((product_apply m c _ _).symm.trans (congrArg (product m c) (emb_o t a b).symm))

/-- The call and the plain product end with the same array. -/
theorem algebraic : Cert.algebraic_Kernel6Ideal_Reference6Ideal (hKernel6Ideal := facts)
    (hReference6Ideal := Cert.Reference6Ideal.Gen.facts) := by
  intro m g m' g' _ hargs
  refine ⟨product m, (θ_run _ _ _).mono (fun r h c => ⟨(h c).1.trans (final m c), (h c).2⟩) (Cert.Kernel6Ideal.Value.run_blocks m g),
    (θ_run _ _ _).mono (fun r h c => ⟨(h c).1.trans ?_, (h c).2⟩) (Cert.Reference6Ideal.Value.run (F := Ideal) m' g')⟩
  unfold product
  rw [(hargs c).1, (hargs c).2]

end Cert.Kernel6Ideal.Product

end
-- ==== Proof.UpInputGrad.lean ====
/-
  The gradient of the input of the feed-forward block's first product, `d_h3`: `InputGrad`'s computation on that block's
  weight, eight blocks of 1408 of its 11264 columns.
-/
module

public import proofs.«01_k».proof.Defs
public import proofs.«01_k».proof.Proof.Runs
public import proofs.«01_k».proof.Proof.Gen.Kernel7Ideal.Value
public import proofs.«01_k».proof.Proof.Gen.Reference7Ideal.Run
public import Idealize.ShloMosaic.Lib.Pointwise
public import Idealize.ShloMosaic.Lib.Pipeline.ValueKit
public import Idealize.ShloMosaic.Lib.Pipeline.ReadBack

@[expose] public section

set_option maxRecDepth 16384
set_option maxHeartbeats 2000000

noncomputable section

namespace Cert.Kernel7Ideal.Product

open Idealize.ShloMosaic Idealize.ShloMosaic.TcCoe Idealize.SL.Sem Idealize.ShloMosaic.Tactic
open Cert.Kernel7Ideal Cert.Kernel7Ideal.Gen

theorem points : cfg0.N = 16 * (7 + 1) := N_0

/-- The `k`-th of the eight points of an output block. -/
abbrev pt (q : Fin 16) (k : Fin 8) : Fin cfg0.N := Runs.pt (K := 7) points q k

/-- The rows and columns of an output block, and the columns of the `k`-th block. -/
abbrev row (q : Fin 16) (a : Fin 1024) : Fin 8192 := ⟨q.val / 2 * 1024 + a.val, by omega⟩
abbrev col (q : Fin 16) (b : Fin 1024) : Fin 2048 := ⟨q.val % 2 * 1024 + b.val, by omega⟩
abbrev mid (k : Fin 8) (l : Fin 1408) : Fin 11264 := ⟨k.val * 1408 + l.val, by omega⟩

theorem idx_x : ∀ (q : Fin 16) (k : Fin 8), win0_0.index (pt q k) = ![q.val / 2, k.val] := by decide +kernel
theorem idx_w : ∀ (q : Fin 16) (k : Fin 8), win0_1.index (pt q k) = ![q.val % 2, k.val] := by decide +kernel
theorem idx_o : ∀ (q : Fin 16) (k : Fin 8), win0_2.index (pt q k) = ![q.val / 2, q.val % 2] := by decide +kernel

section Windows

variable {F : FTy → Type} [FloatOps F] (q : Fin 16) (k : Fin 8)

theorem blk_x (X : Vec F S8192x11264 .bf16) (a : Fin 1024) (l : Fin 1408) :
    ((cfg0.win 0).blk (pt q k)).view.read (Elt F) X (ix2 a l) = X (ix2 (row q a) (mid k l)) := by
  blk_ext [idx_x q k]

theorem blk_w (X : Vec F S2048x11264 .bf16) (b : Fin 1024) (l : Fin 1408) :
    ((cfg0.win 1).blk (pt q k)).view.read (Elt F) X (ix2 b l) = X (ix2 (col q b) (mid k l)) := by
  blk_ext [idx_w q k]

theorem emb_o (a b : Fin 1024) : ((cfg0.win 2).blk (pt q k)).view.emb (ix2 a b) = ix2 (row q a) (col q b) := by
  blk_ext [idx_o q k]

end Windows

theorem pay_zero (a b : Fin 1024) : (k0_pay1 (F := Ideal)) (ix2 a b) = 0 := by pointwise [k0_pay1]

theorem pay_add (v : Vec Ideal S1024x1024 .f32) (x w : Vec Ideal S1024x1408 .bf16) (a b : Fin 1024) :
    k0_pay2 v x w (ix2 a b) = v (ix2 a b) + ∑ l, x (ix2 a l) * w (ix2 b l) := by pointwise [k0_pay2]

variable (m : (ℓ : Loc nD τ sig) → Buf (Elt Ideal) ℓ) (c : Dev nD)

/-- The arguments: the gradient and the weight. -/
abbrev x : FVec Ideal S8192x11264 .bf16 := m ((c : Thread nD τ).loc main_arg0)
abbrev w : FVec Ideal S2048x11264 .bf16 := m ((c : Thread nD τ).loc main_arg1)

theorem in_x (q : Fin 16) (k : Fin 8) (a : Fin 1024) (l : Fin 1408) :
    iblk m c 0 (pt q k) (ix2 a l) = x m c (ix2 (row q a) (mid k l)) :=
  (blk_x q k (V m c main_arg0) a l).trans (congrFun (V_main_arg0 m c) _)

theorem in_w (q : Fin 16) (k : Fin 8) (b : Fin 1024) (l : Fin 1408) :
    iblk m c 1 (pt q k) (ix2 b l) = w m c (ix2 (col q b) (mid k l)) :=
  (blk_w q k (V m c main_arg1) b l).trans (congrFun (V_main_arg1 m c) _)

/-- What a point adds to an entry of the accumulator. -/
def term (a b : Fin 1024) (q : Fin 16) (k : Fin 8) : EReal :=
  ∑ l, x m c (ix2 (row q a) (mid k l)) * w m c (ix2 (col q b) (mid k l))

theorem first (q : Fin 16) (a b : Fin 1024) : (outsAt0 m c (pt q 0).val (pt q 0).isLt).2 (ix2 a b) = term m c a b q 0 := by
  rw [outsAt0_A m c (pt q 0) (by show (8 * q.val + 0) % 8 = 0; omega) (by show ¬(8 * q.val + 0) % 8 = 7; omega)]
  frame_out
  rw [pay_add, pay_zero, zero_add]
  exact Finset.sum_congr rfl fun l _ => by rw [in_x, in_w]

theorem later (q : Fin 16) (k : Fin 8) (h : (pt q k).val - 1 < cfg0.N) (hk : k.val ≠ 0) (a b : Fin 1024) :
    (outsAt0 m c (pt q k).val (pt q k).isLt).2 (ix2 a b)
      = (outsAt0 m c ((pt q k).val - 1) h).2 (ix2 a b) + term m c a b q k := by
  have h0 : ¬(pt q k).val % 8 = 0 := by show ¬(8 * q.val + k.val) % 8 = 0; omega
  by_cases h1 : (pt q k).val % 8 = 7
  · rw [outsAt0_C m c (pt q k) h0 h1]
    frame_out
    rw [pay_add, read_unread_whole]
    exact congrArg ((outsAt0 m c ((pt q k).val - 1) h).2 (ix2 a b) + ·) (Finset.sum_congr rfl fun l _ => by rw [in_x, in_w])
  · rw [outsAt0_B m c (pt q k) h0 h1]
    frame_out
    rw [pay_add, read_unread_whole]
    exact congrArg ((outsAt0 m c ((pt q k).val - 1) h).2 (ix2 a b) + ·) (Finset.sum_congr rfl fun l _ => by rw [in_x, in_w])

/-- A run's last point stores the accumulator. -/
theorem stored (q : Fin 16) (a b : Fin 1024) :
    (outsAt0 m c (pt q 7).val (pt q 7).isLt).1 (ix2 a b) = (outsAt0 m c (pt q 7).val (pt q 7).isLt).2 (ix2 a b) := by
  rw [outsAt0_C m c (pt q 7) (by show ¬(8 * q.val + 7) % 8 = 0; omega) (by show (8 * q.val + 7) % 8 = 7; omega)]
  frame_out

/-- It is the sum over all 11264 columns. -/
theorem entry (q : Fin 16) (a b : Fin 1024) : (outsAt0 m c (pt q 7).val (pt q 7).isLt).1 (ix2 a b)
    = ∑ l, x m c (ix2 (row q a) l) * w m c (ix2 (col q b) l) :=
  (stored m c q a b).trans ((Runs.run_sum points (fun n h => (outsAt0 m c n h).2 (ix2 a b)) (term m c a b)
    (fun q => first m c q a b) (fun q k h hk => later m c q k h hk a b) q).trans
    (Fin.sum_univ_tiles 8 1408 rfl fun l => x m c (ix2 (row q a) l) * w m c (ix2 (col q b) l)).symm)

/-- The derivative's product, on the call's arguments. -/
@[irreducible] def product : FVec Ideal S8192x2048 .f32 :=
  Host.dotGeneral Cert.Reference7Ideal.dot_S8192x11264_S2048x11264_S8192x2048_1_1_0_0_n_n none
    (extf .f32 (x m c) Cert.Reference7Ideal.Facts₀.bitsLt_bf16_f32) (extf .f32 (w m c) Cert.Reference7Ideal.Facts₀.bitsLt_bf16_f32)

theorem product_apply (i : Fin 8192) (j : Fin 2048) :
    product m c (ix2 i j) = ∑ l, x m c (ix2 i l) * w m c (ix2 j l) := by
  unfold product
  pointwise []

theorem final : (dats m 0 c).arrAt 2 cfg0.N = product m c := by
  refine (dats m 0 c).arrAt_eq_of_covers 2 _ (by decide +kernel) fun t hf y => ?_
  obtain ⟨q, rfl⟩ : ∃ q : Fin 16, t = pt q 7 := by
    have h7 : t.val % 8 = 7 := (flush0_2 t).mp hf
    have ht := lt_of_lt_of_eq t.isLt points
    exact ⟨⟨t.val / 8, by omega⟩, Fin.ext (by show t.val = 8 * (t.val / 8) + 7; omega)⟩
  blk_simp
  rw [after0_2]
  obtain ⟨a, b, rfl⟩ : ∃ a b : Fin 1024, y = ix2 a b := ⟨y 0, y 1, eq_ix2 y⟩
  exact (entry m c q a b).trans ((product_apply m c _ _).symm.trans (congrArg (product m c) (emb_o q 7 a b).symm))

/-- The call and the derivative end with the same array. -/
theorem algebraic : Cert.algebraic_Kernel7Ideal_Reference7Ideal (hKernel7Ideal := facts)
    (hReference7Ideal := Cert.Reference7Ideal.Gen.facts) := by
  intro m g m' g' _ hargs
  refine ⟨product m, (θ_run _ _ _).mono (fun r h c => ⟨(h c).1.trans (final m c), (h c).2⟩) (Cert.Kernel7Ideal.Value.run_blocks m g),
    (θ_run _ _ _).mono (fun r h c => ⟨(h c).1.trans ?_, (h c).2⟩) (Cert.Reference7Ideal.Value.run (F := Ideal) m' g')⟩
  unfold product
  rw [(hargs c).1, (hargs c).2]

end Cert.Kernel7Ideal.Product

end
-- ==== Proof.Down.lean ====
/-
  The feed-forward block's second product, `w_down`: accumulated over four blocks of the 5632 columns of its input, it is the
  one plain product.
-/
module

public import proofs.«01_k».proof.Defs
public import proofs.«01_k».proof.Proof.Runs
public import proofs.«01_k».proof.Proof.Gen.Kernel8Ideal.Value
public import proofs.«01_k».proof.Proof.Gen.Reference8Ideal.Run
public import Idealize.ShloMosaic.Lib.Pointwise
public import Idealize.ShloMosaic.Lib.Pipeline.ValueKit
public import Idealize.ShloMosaic.Lib.Pipeline.ReadBack

@[expose] public section

set_option maxRecDepth 16384
set_option maxHeartbeats 2000000

noncomputable section

namespace Cert.Kernel8Ideal.Product

open Idealize.ShloMosaic Idealize.ShloMosaic.TcCoe Idealize.SL.Sem Idealize.ShloMosaic.Tactic
open Cert.Kernel8Ideal Cert.Kernel8Ideal.Gen

theorem points : cfg0.N = 16 * (3 + 1) := N_0

/-- The `k`-th of the four points of an output block. -/
abbrev pt (q : Fin 16) (k : Fin 4) : Fin cfg0.N := Runs.pt (K := 3) points q k

/-- The rows and columns of an output block, and the columns of the `k`-th block. -/
abbrev row (q : Fin 16) (a : Fin 1024) : Fin 8192 := ⟨q.val / 2 * 1024 + a.val, by omega⟩
abbrev col (q : Fin 16) (b : Fin 1024) : Fin 2048 := ⟨q.val % 2 * 1024 + b.val, by omega⟩
abbrev mid (k : Fin 4) (l : Fin 1408) : Fin 5632 := ⟨k.val * 1408 + l.val, by omega⟩

theorem idx_x : ∀ (q : Fin 16) (k : Fin 4), win0_0.index (pt q k) = ![q.val / 2, k.val] := by decide +kernel
theorem idx_w : ∀ (q : Fin 16) (k : Fin 4), win0_1.index (pt q k) = ![k.val, q.val % 2] := by decide +kernel
theorem idx_o : ∀ (q : Fin 16) (k : Fin 4), win0_2.index (pt q k) = ![q.val / 2, q.val % 2] := by decide +kernel

section Windows

variable {F : FTy → Type} [FloatOps F] (q : Fin 16) (k : Fin 4)

theorem blk_x (X : Vec F S8192x5632 .bf16) (a : Fin 1024) (l : Fin 1408) :
    ((cfg0.win 0).blk (pt q k)).view.read (Elt F) X (ix2 a l) = X (ix2 (row q a) (mid k l)) := by
  blk_ext [idx_x q k]

theorem blk_w (X : Vec F S5632x2048 .bf16) (l : Fin 1408) (b : Fin 1024) :
    ((cfg0.win 1).blk (pt q k)).view.read (Elt F) X (ix2 l b) = X (ix2 (mid k l) (col q b)) := by
  blk_ext [idx_w q k]

theorem emb_o (a b : Fin 1024) : ((cfg0.win 2).blk (pt q k)).view.emb (ix2 a b) = ix2 (row q a) (col q b) := by
  blk_ext [idx_o q k]

end Windows

theorem pay_zero (a b : Fin 1024) : (k0_pay1 (F := Ideal)) (ix2 a b) = 0 := by pointwise [k0_pay1]

theorem pay_add (v : Vec Ideal S1024x1024 .f32) (x : Vec Ideal S1024x1408 .bf16) (w : Vec Ideal S1408x1024 .bf16) (a b : Fin 1024) :
    k0_pay2 v x w (ix2 a b) = v (ix2 a b) + ∑ l, x (ix2 a l) * w (ix2 l b) := by pointwise [k0_pay2]

variable (m : (ℓ : Loc nD τ sig) → Buf (Elt Ideal) ℓ) (c : Dev nD)

/-- The arguments: the gradient and the weight. -/
abbrev x : FVec Ideal S8192x5632 .bf16 := m ((c : Thread nD τ).loc main_arg0)
abbrev w : FVec Ideal S5632x2048 .bf16 := m ((c : Thread nD τ).loc main_arg1)

theorem in_x (q : Fin 16) (k : Fin 4) (a : Fin 1024) (l : Fin 1408) :
    iblk m c 0 (pt q k) (ix2 a l) = x m c (ix2 (row q a) (mid k l)) :=
  (blk_x q k (V m c main_arg0) a l).trans (congrFun (V_main_arg0 m c) _)

theorem in_w (q : Fin 16) (k : Fin 4) (l : Fin 1408) (b : Fin 1024) :
    iblk m c 1 (pt q k) (ix2 l b) = w m c (ix2 (mid k l) (col q b)) :=
  (blk_w q k (V m c main_arg1) l b).trans (congrFun (V_main_arg1 m c) _)

/-- What a point adds to an entry of the accumulator. -/
def term (a b : Fin 1024) (q : Fin 16) (k : Fin 4) : EReal :=
  ∑ l, x m c (ix2 (row q a) (mid k l)) * w m c (ix2 (mid k l) (col q b))

theorem first (q : Fin 16) (a b : Fin 1024) : (outsAt0 m c (pt q 0).val (pt q 0).isLt).2 (ix2 a b) = term m c a b q 0 := by
  rw [outsAt0_A m c (pt q 0) (by show (4 * q.val + 0) % 4 = 0; omega) (by show ¬(4 * q.val + 0) % 4 = 3; omega)]
  frame_out
  rw [pay_add, pay_zero, zero_add]
  exact Finset.sum_congr rfl fun l _ => by rw [in_x, in_w]

theorem later (q : Fin 16) (k : Fin 4) (h : (pt q k).val - 1 < cfg0.N) (hk : k.val ≠ 0) (a b : Fin 1024) :
    (outsAt0 m c (pt q k).val (pt q k).isLt).2 (ix2 a b)
      = (outsAt0 m c ((pt q k).val - 1) h).2 (ix2 a b) + term m c a b q k := by
  have h0 : ¬(pt q k).val % 4 = 0 := by show ¬(4 * q.val + k.val) % 4 = 0; omega
  by_cases h1 : (pt q k).val % 4 = 3
  · rw [outsAt0_C m c (pt q k) h0 h1]
    frame_out
    rw [pay_add, read_unread_whole]
    exact congrArg ((outsAt0 m c ((pt q k).val - 1) h).2 (ix2 a b) + ·) (Finset.sum_congr rfl fun l _ => by rw [in_x, in_w])
  · rw [outsAt0_B m c (pt q k) h0 h1]
    frame_out
    rw [pay_add, read_unread_whole]
    exact congrArg ((outsAt0 m c ((pt q k).val - 1) h).2 (ix2 a b) + ·) (Finset.sum_congr rfl fun l _ => by rw [in_x, in_w])

/-- A run's last point stores the accumulator. -/
theorem stored (q : Fin 16) (a b : Fin 1024) :
    (outsAt0 m c (pt q 3).val (pt q 3).isLt).1 (ix2 a b) = (outsAt0 m c (pt q 3).val (pt q 3).isLt).2 (ix2 a b) := by
  rw [outsAt0_C m c (pt q 3) (by show ¬(4 * q.val + 3) % 4 = 0; omega) (by show (4 * q.val + 3) % 4 = 3; omega)]
  frame_out

/-- It is the sum over all 5632 columns. -/
theorem entry (q : Fin 16) (a b : Fin 1024) : (outsAt0 m c (pt q 3).val (pt q 3).isLt).1 (ix2 a b)
    = ∑ l, x m c (ix2 (row q a) l) * w m c (ix2 l (col q b)) :=
  (stored m c q a b).trans ((Runs.run_sum points (fun n h => (outsAt0 m c n h).2 (ix2 a b)) (term m c a b)
    (fun q => first m c q a b) (fun q k h hk => later m c q k h hk a b) q).trans
    (Fin.sum_univ_tiles 4 1408 rfl fun l => x m c (ix2 (row q a) l) * w m c (ix2 l (col q b))).symm)

/-- The plain product, on the call's arguments. -/
@[irreducible] def product : FVec Ideal S8192x2048 .f32 :=
  Host.dotGeneral Cert.Reference8Ideal.dot_S8192x5632_S5632x2048_S8192x2048_1_0_0_1_n_n none
    (extf .f32 (x m c) Cert.Reference8Ideal.Facts₀.bitsLt_bf16_f32) (extf .f32 (w m c) Cert.Reference8Ideal.Facts₀.bitsLt_bf16_f32)

theorem product_apply (i : Fin 8192) (j : Fin 2048) :
    product m c (ix2 i j) = ∑ l, x m c (ix2 i l) * w m c (ix2 l j) := by
  unfold product
  pointwise []

theorem final : (dats m 0 c).arrAt 2 cfg0.N = product m c := by
  refine (dats m 0 c).arrAt_eq_of_covers 2 _ (by decide +kernel) fun t hf y => ?_
  obtain ⟨q, rfl⟩ : ∃ q : Fin 16, t = pt q 3 := by
    have h3 : t.val % 4 = 3 := (flush0_2 t).mp hf
    have ht := lt_of_lt_of_eq t.isLt points
    exact ⟨⟨t.val / 4, by omega⟩, Fin.ext (by show t.val = 4 * (t.val / 4) + 3; omega)⟩
  blk_simp
  rw [after0_2]
  obtain ⟨a, b, rfl⟩ : ∃ a b : Fin 1024, y = ix2 a b := ⟨y 0, y 1, eq_ix2 y⟩
  exact (entry m c q a b).trans ((product_apply m c _ _).symm.trans (congrArg (product m c) (emb_o q 3 a b).symm))

/-- The call and the plain product end with the same array. -/
theorem algebraic : Cert.algebraic_Kernel8Ideal_Reference8Ideal (hKernel8Ideal := facts)
    (hReference8Ideal := Cert.Reference8Ideal.Gen.facts) := by
  intro m g m' g' _ hargs
  refine ⟨product m, (θ_run _ _ _).mono (fun r h c => ⟨(h c).1.trans (final m c), (h c).2⟩) (Cert.Kernel8Ideal.Value.run_blocks m g),
    (θ_run _ _ _).mono (fun r h c => ⟨(h c).1.trans ?_, (h c).2⟩) (Cert.Reference8Ideal.Value.run (F := Ideal) m' g')⟩
  unfold product
  rw [(hargs c).1, (hargs c).2]

end Cert.Kernel8Ideal.Product

end
-- ==== Proof.DownInputGrad.lean ====
/-
  The gradient of the input of the feed-forward block's second product, `d_act`: the product of the gradient and of the weight,
  a block of the result at a point, is the derivative's one product.
-/
module

public import proofs.«01_k».proof.Defs
public import proofs.«01_k».proof.Proof.Gen.Kernel9Ideal.Value
public import proofs.«01_k».proof.Proof.Gen.Reference9Ideal.Run
public import Idealize.ShloMosaic.Lib.Pointwise
public import Idealize.ShloMosaic.Lib.Pipeline.ValueKit

@[expose] public section

set_option maxRecDepth 16384
set_option maxHeartbeats 2000000

noncomputable section

namespace Cert.Kernel9Ideal.Product

open Idealize.ShloMosaic Idealize.ShloMosaic.TcCoe Idealize.SL.Sem Idealize.ShloMosaic.Tactic
open Cert.Kernel9Ideal Cert.Kernel9Ideal.Gen

theorem points : cfg0.N = 88 := N_0

/-- The rows and columns of the output block of a point. -/
abbrev row (t : Fin cfg0.N) (a : Fin 1024) : Fin 8192 :=
  ⟨t.val / 11 * 1024 + a.val, by have ht := lt_of_lt_of_eq t.isLt points; omega⟩
abbrev col (t : Fin cfg0.N) (b : Fin 512) : Fin 5632 := ⟨t.val % 11 * 512 + b.val, by omega⟩

theorem idx_x : ∀ t : Fin cfg0.N, win0_0.index t = ![t.val / 11, 0] := by decide +kernel
theorem idx_w : ∀ t : Fin cfg0.N, win0_1.index t = ![t.val % 11, 0] := by decide +kernel
theorem idx_o : ∀ t : Fin cfg0.N, win0_2.index t = ![t.val / 11, t.val % 11] := by decide +kernel

section Windows

variable {F : FTy → Type} [FloatOps F] (t : Fin cfg0.N)

theorem blk_x (X : Vec F S8192x2048 .bf16) (a : Fin 1024) (l : Fin 2048) :
    ((cfg0.win 0).blk t).view.read (Elt F) X (ix2 a l) = X (ix2 (row t a) l) := by
  blk_ext [idx_x t]

theorem blk_w (X : Vec F S5632x2048 .bf16) (b : Fin 512) (l : Fin 2048) :
    ((cfg0.win 1).blk t).view.read (Elt F) X (ix2 b l) = X (ix2 (col t b) l) := by
  blk_ext [idx_w t]

theorem emb_o (a : Fin 1024) (b : Fin 512) : ((cfg0.win 2).blk t).view.emb (ix2 a b) = ix2 (row t a) (col t b) := by
  blk_ext [idx_o t]

end Windows

theorem pay_zero (a : Fin 1024) (b : Fin 512) : (k0_pay1 (F := Ideal)) (ix2 a b) = 0 := by pointwise [k0_pay1]

theorem pay_add (v : Vec Ideal S1024x512 .f32) (x : Vec Ideal S1024x2048 .bf16) (w : Vec Ideal S512x2048 .bf16) (a : Fin 1024) (b : Fin 512) :
    k0_pay2 v x w (ix2 a b) = v (ix2 a b) + ∑ l, x (ix2 a l) * w (ix2 b l) := by pointwise [k0_pay2]

variable (m : (ℓ : Loc nD τ sig) → Buf (Elt Ideal) ℓ) (c : Dev nD)

/-- The arguments: the gradient and the weight. -/
abbrev x : FVec Ideal S8192x2048 .bf16 := m ((c : Thread nD τ).loc main_arg0)
abbrev w : FVec Ideal S5632x2048 .bf16 := m ((c : Thread nD τ).loc main_arg1)

theorem in_x (t : Fin cfg0.N) (a : Fin 1024) (l : Fin 2048) : iblk m c 0 t (ix2 a l) = x m c (ix2 (row t a) l) :=
  (blk_x t (V m c main_arg0) a l).trans (congrFun (V_main_arg0 m c) _)

theorem in_w (t : Fin cfg0.N) (b : Fin 512) (l : Fin 2048) : iblk m c 1 t (ix2 b l) = w m c (ix2 (col t b) l) :=
  (blk_w t (V m c main_arg1) b l).trans (congrFun (V_main_arg1 m c) _)

/-- A point clears the accumulator, adds the product of its two blocks and stores it. -/
theorem entry (t : Fin cfg0.N) (a : Fin 1024) (b : Fin 512) :
    outsAt0 m c t (ix2 a b) = ∑ l, x m c (ix2 (row t a) l) * w m c (ix2 (col t b) l) := by
  unfold outsAt0
  frame_out
  rw [pay_add, pay_zero, zero_add]
  exact Finset.sum_congr rfl fun l _ => by rw [in_x, in_w]

/-- The derivative's product, on the call's arguments. -/
@[irreducible] def product : FVec Ideal S8192x5632 .f32 :=
  Host.dotGeneral Cert.Reference9Ideal.dot_S8192x2048_S5632x2048_S8192x5632_1_1_0_0_n_n none
    (extf .f32 (x m c) Cert.Reference9Ideal.Facts₀.bitsLt_bf16_f32) (extf .f32 (w m c) Cert.Reference9Ideal.Facts₀.bitsLt_bf16_f32)

theorem product_apply (i : Fin 8192) (j : Fin 5632) :
    product m c (ix2 i j) = ∑ l, x m c (ix2 i l) * w m c (ix2 j l) := by
  unfold product
  pointwise []

theorem final : (dats m 0 c).arrAt 2 cfg0.N = product m c := by
  refine (dats m 0 c).arrAt_eq_of_covers 2 _ (by decide +kernel) fun t hf y => ?_
  blk_simp
  rw [after0_2]
  obtain ⟨a, b, rfl⟩ : ∃ (a : Fin 1024) (b : Fin 512), y = ix2 a b := ⟨y 0, y 1, eq_ix2 y⟩
  exact (entry m c t a b).trans ((product_apply m c _ _).symm.trans (congrArg (product m c) (emb_o t a b).symm))

/-- The call and the derivative end with the same array. -/
theorem algebraic : Cert.algebraic_Kernel9Ideal_Reference9Ideal (hKernel9Ideal := facts)
    (hReference9Ideal := Cert.Reference9Ideal.Gen.facts) := by
  intro m g m' g' _ hargs
  refine ⟨product m, (θ_run _ _ _).mono (fun r h c => ⟨(h c).1.trans (final m c), (h c).2⟩) (Cert.Kernel9Ideal.Value.run_blocks m g),
    (θ_run _ _ _).mono (fun r h c => ⟨(h c).1.trans ?_, (h c).2⟩) (Cert.Reference9Ideal.Value.run (F := Ideal) m' g')⟩
  unfold product
  rw [(hargs c).1, (hargs c).2]

end Cert.Kernel9Ideal.Product

end
-- ==== Proof.DownGrad.lean ====
/-
  The gradient of the weight of the feed-forward block's second product, `dw_down`: `ProjectGrad`'s computation with 5632
  columns of the input and 2048 of the gradient.
-/
module

public import proofs.«01_k».proof.Defs
public import proofs.«01_k».proof.Proof.Runs
public import proofs.«01_k».proof.Proof.Gen.Kernel10Ideal.Value
public import proofs.«01_k».proof.Proof.Gen.Reference10Ideal.Run
public import Idealize.ShloMosaic.Lib.Pointwise
public import Idealize.ShloMosaic.Lib.Pipeline.ValueKit
public import Idealize.ShloMosaic.Lib.Pipeline.ReadBack

@[expose] public section

set_option maxRecDepth 16384
set_option maxHeartbeats 2000000

noncomputable section

namespace Cert.Kernel10Ideal.Product

open Idealize.ShloMosaic Idealize.ShloMosaic.TcCoe Idealize.SL.Sem Idealize.ShloMosaic.Tactic
open Cert.Kernel10Ideal Cert.Kernel10Ideal.Gen

theorem points : cfg0.N = 22 * (3 + 1) := N_0

/-- The `k`-th of the four points of an output block. -/
abbrev pt (q : Fin 22) (k : Fin 4) : Fin cfg0.N := Runs.pt (K := 3) points q k

/-- The rows and columns of an output block, and the rows of the `k`-th block that is summed over. -/
abbrev row (q : Fin 22) (a : Fin 512) : Fin 5632 := ⟨q.val / 2 * 512 + a.val, by omega⟩
abbrev col (q : Fin 22) (b : Fin 1024) : Fin 2048 := ⟨q.val % 2 * 1024 + b.val, by omega⟩
abbrev mid (k : Fin 4) (l : Fin 2048) : Fin 8192 := ⟨k.val * 2048 + l.val, by omega⟩

theorem idx_x : ∀ (q : Fin 22) (k : Fin 4), win0_0.index (pt q k) = ![k.val, q.val / 2] := by decide +kernel
theorem idx_y : ∀ (q : Fin 22) (k : Fin 4), win0_1.index (pt q k) = ![k.val, q.val % 2] := by decide +kernel
theorem idx_o : ∀ (q : Fin 22) (k : Fin 4), win0_2.index (pt q k) = ![q.val / 2, q.val % 2] := by decide +kernel

section Windows

variable {F : FTy → Type} [FloatOps F] (q : Fin 22) (k : Fin 4)

theorem blk_x (X : Vec F S8192x5632 .bf16) (l : Fin 2048) (a : Fin 512) :
    ((cfg0.win 0).blk (pt q k)).view.read (Elt F) X (ix2 l a) = X (ix2 (mid k l) (row q a)) := by
  blk_ext [idx_x q k]

theorem blk_y (X : Vec F S8192x2048 .bf16) (l : Fin 2048) (b : Fin 1024) :
    ((cfg0.win 1).blk (pt q k)).view.read (Elt F) X (ix2 l b) = X (ix2 (mid k l) (col q b)) := by
  blk_ext [idx_y q k]

theorem emb_o (a : Fin 512) (b : Fin 1024) :
    ((cfg0.win 2).blk (pt q k)).view.emb (ix2 a b) = ix2 (row q a) (col q b) := by
  blk_ext [idx_o q k]

end Windows

theorem pay_zero (a : Fin 512) (b : Fin 1024) : (k0_pay1 (F := Ideal)) (ix2 a b) = 0 := by pointwise [k0_pay1]

theorem pay_add (v : Vec Ideal S512x1024 .f32) (x : Vec Ideal S2048x512 .bf16) (y : Vec Ideal S2048x1024 .bf16)
    (a : Fin 512) (b : Fin 1024) :
    k0_pay2 v x y (ix2 a b) = v (ix2 a b) + ∑ l, x (ix2 l a) * y (ix2 l b) := by pointwise [k0_pay2]

theorem pay_out (v : Vec Ideal S512x1024 .f32) (a : Fin 512) (b : Fin 1024) :
    k0_pay3 v (ix2 a b) = v (ix2 a b) := by pointwise [k0_pay3]

variable (m : (ℓ : Loc nD τ sig) → Buf (Elt Ideal) ℓ) (c : Dev nD)

/-- The arguments: the product's input and its result's gradient. -/
abbrev x : FVec Ideal S8192x5632 .bf16 := m ((c : Thread nD τ).loc main_arg0)
abbrev y : FVec Ideal S8192x2048 .bf16 := m ((c : Thread nD τ).loc main_arg1)

theorem in_x (q : Fin 22) (k : Fin 4) (l : Fin 2048) (a : Fin 512) :
    iblk m c 0 (pt q k) (ix2 l a) = x m c (ix2 (mid k l) (row q a)) :=
  (blk_x q k (V m c main_arg0) l a).trans (congrFun (V_main_arg0 m c) _)

theorem in_y (q : Fin 22) (k : Fin 4) (l : Fin 2048) (b : Fin 1024) :
    iblk m c 1 (pt q k) (ix2 l b) = y m c (ix2 (mid k l) (col q b)) :=
  (blk_y q k (V m c main_arg1) l b).trans (congrFun (V_main_arg1 m c) _)

/-- What a point adds to an entry of the accumulator. -/
def term (a : Fin 512) (b : Fin 1024) (q : Fin 22) (k : Fin 4) : EReal :=
  ∑ l, x m c (ix2 (mid k l) (row q a)) * y m c (ix2 (mid k l) (col q b))

theorem first (q : Fin 22) (a : Fin 512) (b : Fin 1024) :
    (outsAt0 m c (pt q 0).val (pt q 0).isLt).2 (ix2 a b) = term m c a b q 0 := by
  rw [outsAt0_A m c (pt q 0) (by show (4 * q.val + 0) % 4 = 0; omega) (by show ¬(4 * q.val + 0) % 4 = 3; omega)]
  frame_out
  rw [pay_add, pay_zero, zero_add]
  exact Finset.sum_congr rfl fun l _ => by rw [in_x, in_y]

theorem later (q : Fin 22) (k : Fin 4) (h : (pt q k).val - 1 < cfg0.N) (hk : k.val ≠ 0) (a : Fin 512) (b : Fin 1024) :
    (outsAt0 m c (pt q k).val (pt q k).isLt).2 (ix2 a b)
      = (outsAt0 m c ((pt q k).val - 1) h).2 (ix2 a b) + term m c a b q k := by
  have h0 : ¬(pt q k).val % 4 = 0 := by show ¬(4 * q.val + k.val) % 4 = 0; omega
  by_cases h1 : (pt q k).val % 4 = 3
  · rw [outsAt0_C m c (pt q k) h0 h1]
    frame_out
    rw [pay_add, read_unread_whole]
    exact congrArg ((outsAt0 m c ((pt q k).val - 1) h).2 (ix2 a b) + ·) (Finset.sum_congr rfl fun l _ => by rw [in_x, in_y])
  · rw [outsAt0_B m c (pt q k) h0 h1]
    frame_out
    rw [pay_add, read_unread_whole]
    exact congrArg ((outsAt0 m c ((pt q k).val - 1) h).2 (ix2 a b) + ·) (Finset.sum_congr rfl fun l _ => by rw [in_x, in_y])

/-- A run's last point stores the accumulator. -/
theorem stored (q : Fin 22) (a : Fin 512) (b : Fin 1024) :
    (outsAt0 m c (pt q 3).val (pt q 3).isLt).1 (ix2 a b) = (outsAt0 m c (pt q 3).val (pt q 3).isLt).2 (ix2 a b) := by
  rw [outsAt0_C m c (pt q 3) (by show ¬(4 * q.val + 3) % 4 = 0; omega) (by show (4 * q.val + 3) % 4 = 3; omega)]
  frame_out
  exact pay_out _ a b

/-- It is the sum over all 8192 rows. -/
theorem entry (q : Fin 22) (a : Fin 512) (b : Fin 1024) : (outsAt0 m c (pt q 3).val (pt q 3).isLt).1 (ix2 a b)
    = ∑ l, x m c (ix2 l (row q a)) * y m c (ix2 l (col q b)) :=
  (stored m c q a b).trans ((Runs.run_sum points (fun n h => (outsAt0 m c n h).2 (ix2 a b)) (term m c a b)
    (fun q => first m c q a b) (fun q k h hk => later m c q k h hk a b) q).trans
    (Fin.sum_univ_tiles 4 2048 rfl fun l => x m c (ix2 l (row q a)) * y m c (ix2 l (col q b))).symm)

/-- The derivative's product, on the call's arguments. -/
@[irreducible] def product : FVec Ideal S5632x2048 .bf16 :=
  truncf .bf16 (transpose Cert.Reference10Ideal.S5632x2048 [1, 0] (Host.dotGeneral Cert.Reference10Ideal.dot_S8192x2048_S8192x5632_S2048x5632_0_0_1_1_n_n none
      (extf .f32 (y m c) Cert.Reference10Ideal.Facts₀.bitsLt_bf16_f32) (extf .f32 (x m c) Cert.Reference10Ideal.Facts₀.bitsLt_bf16_f32))
    Cert.Reference10Ideal.Facts₀.transposes_S2048x5632_S5632x2048_1_0) Cert.Reference10Ideal.Facts₀.bitsLt_bf16_f32

theorem product_apply (i : Fin 5632) (j : Fin 2048) :
    product m c (ix2 i j) = ∑ l, x m c (ix2 l i) * y m c (ix2 l j) := by
  unfold product
  refine Eq.trans (b := ∑ l, y m c (ix2 l j) * x m c (ix2 l i)) ?_ (Finset.sum_congr rfl fun l _ => mul_comm _ _)
  pointwise []

theorem final : (dats m 0 c).arrAt 2 cfg0.N = product m c := by
  refine (dats m 0 c).arrAt_eq_of_covers 2 _ (by decide +kernel) fun t hf y' => ?_
  obtain ⟨q, rfl⟩ : ∃ q : Fin 22, t = pt q 3 := by
    have h3 : t.val % 4 = 3 := (flush0_2 t).mp hf
    have ht := lt_of_lt_of_eq t.isLt points
    exact ⟨⟨t.val / 4, by omega⟩, Fin.ext (by show t.val = 4 * (t.val / 4) + 3; omega)⟩
  blk_simp
  rw [after0_2]
  obtain ⟨a, b, rfl⟩ : ∃ (a : Fin 512) (b : Fin 1024), y' = ix2 a b := ⟨y' 0, y' 1, eq_ix2 y'⟩
  exact (entry m c q a b).trans ((product_apply m c _ _).symm.trans (congrArg (product m c) (emb_o q 3 a b).symm))

/-- The call and the derivative end with the same array. -/
theorem algebraic : Cert.algebraic_Kernel10Ideal_Reference10Ideal (hKernel10Ideal := facts)
    (hReference10Ideal := Cert.Reference10Ideal.Gen.facts) := by
  intro m g m' g' _ hargs
  refine ⟨product m, (θ_run _ _ _).mono (fun r h c => ⟨(h c).1.trans (final m c), (h c).2⟩) (Cert.Kernel10Ideal.Value.run_blocks m g),
    (θ_run _ _ _).mono (fun r h c => ⟨(h c).1.trans ?_, (h c).2⟩) (Cert.Reference10Ideal.Value.run (F := Ideal) m' g')⟩
  unfold product
  rw [(hargs c).1, (hargs c).2]

end Cert.Kernel10Ideal.Product

end
-- ==== Proof.lean ====
/-
  The claims, each from its own module: the frames of the printed call, of its idealization and of the reference; that the
  idealization changes one constant; and the equality of the results. For each plain product the same four: its frames, and the
  equality with the reference's product.
-/
module

public import proofs.«01_k».proof.Defs
public import proofs.«01_k».proof.Proof.Printed
public import proofs.«01_k».proof.Proof.Launch
public import proofs.«01_k».proof.Proof.Value
public import proofs.«01_k».proof.Proof.InputGrad
public import proofs.«01_k».proof.Proof.WeightGrad
public import proofs.«01_k».proof.Proof.Project
public import proofs.«01_k».proof.Proof.ProjectGrad
public import proofs.«01_k».proof.Proof.Up
public import proofs.«01_k».proof.Proof.UpInputGrad
public import proofs.«01_k».proof.Proof.Down
public import proofs.«01_k».proof.Proof.DownInputGrad
public import proofs.«01_k».proof.Proof.DownGrad
public import proofs.«01_k».proof.Proof.Gen.ReferenceIdeal.Run
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import Idealize.ShloMosaic.Adequacy
public import Idealize.ShloMosaic.Init

@[expose] public section

noncomputable section

namespace Cert.Proof

open Idealize.ShloMosaic Idealize.SL.Sem

theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hargs
  have hA : ∀ c, (Cert.KernelIdeal.Grid.A m c).Finite := fun c =>
    haveI := Cert.Pre_finite.facts
    Cert.Pre_finite.finite _ _ _ _ _ (hpre c).1 (hpre c).2.1 (hpre c).2.2.1 (hpre c).2.2.2.1 (hpre c).2.2.2.2
  refine ⟨Cert.KernelIdeal.Grid.dkv m, Cert.KernelIdeal.Grid.dkr m, ?_, ?_⟩
  · exact (θ_run _ _ _).mono (fun r h c => ⟨(h.1 c).1, (h.1 c).2, h.2.1 c⟩)
      (θ_run_and (Cert.KernelIdeal.Grid.results m g hA) (Cert.KernelIdeal.Point.frame_main m g))
  · refine (θ_run _ _ _).mono (fun r h c => ?_) (Cert.ReferenceIdeal.Value.run (F := Ideal) m' g')
    exact ⟨(h c).1.trans (Cert.KernelIdeal.Grid.dkv_ref m c m' (hargs c).1 (hargs c).2.1 (hargs c).2.2.1 (hargs c).2.2.2.1 (hargs c).2.2.2.2),
      (h c).2.1.trans (Cert.KernelIdeal.Grid.dkr_ref m c m' (hargs c).1 (hargs c).2.1 (hargs c).2.2.1 (hargs c).2.2.2.1 (hargs c).2.2.2.2), (h c).2.2⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_finite.facts,
    fun m g _ => Cert.Kernel.Printed.frame_main m g,
    fun m g _ => Cert.KernelIdeal.Point.frame_main m g,
    fun m g _ => Cert.KernelIdeal.Point.frame_main m g,
    fun m g _ => (θ_run _ _ _).mono (fun r h => ⟨fun c => (h c).2.2, sem_eq_zero_of_no_sems (by decide) r.2⟩)
      (Cert.ReferenceIdeal.Value.run (F := Ideal) m g),
    fun m g _ => (θ_run _ _ _).mono (fun r h => ⟨fun c => (h c).2.2, sem_eq_zero_of_no_sems (by decide) r.2⟩)
      (Cert.ReferenceIdeal.Value.run (F := Ideal) m g),
    fun m g _ => Cert.Kernel2.Gen.frame m g,
    fun m g _ => Cert.Kernel2Ideal.Gen.frame m g,
    fun m g _ => (θ_run _ _ _).mono (fun r h => ⟨fun c => (h c).2, sem_eq_zero_of_no_sems (by decide) r.2⟩)
      (Cert.Reference2Ideal.Value.run (F := Ideal) m g),
    fun m g _ => Cert.Kernel3.Gen.frame m g,
    fun m g _ => Cert.Kernel3Ideal.Gen.frame m g,
    fun m g _ => (θ_run _ _ _).mono (fun r h => ⟨fun c => (h c).2, sem_eq_zero_of_no_sems (by decide) r.2⟩)
      (Cert.Reference3Ideal.Value.run (F := Ideal) m g),
    fun m g _ => Cert.Kernel4.Gen.frame m g,
    fun m g _ => Cert.Kernel4Ideal.Gen.frame m g,
    fun m g _ => (θ_run _ _ _).mono (fun r h => ⟨fun c => (h c).2, sem_eq_zero_of_no_sems (by decide) r.2⟩)
      (Cert.Reference4Ideal.Value.run (F := Ideal) m g),
    fun m g _ => Cert.Kernel5.Gen.frame m g,
    fun m g _ => Cert.Kernel5Ideal.Gen.frame m g,
    fun m g _ => (θ_run _ _ _).mono (fun r h => ⟨fun c => (h c).2, sem_eq_zero_of_no_sems (by decide) r.2⟩)
      (Cert.Reference5Ideal.Value.run (F := Ideal) m g),
    fun m g _ => Cert.Kernel6.Gen.frame m g,
    fun m g _ => Cert.Kernel6Ideal.Gen.frame m g,
    fun m g _ => (θ_run _ _ _).mono (fun r h => ⟨fun c => (h c).2, sem_eq_zero_of_no_sems (by decide) r.2⟩)
      (Cert.Reference6Ideal.Value.run (F := Ideal) m g),
    fun m g _ => Cert.Kernel7.Gen.frame m g,
    fun m g _ => Cert.Kernel7Ideal.Gen.frame m g,
    fun m g _ => (θ_run _ _ _).mono (fun r h => ⟨fun c => (h c).2, sem_eq_zero_of_no_sems (by decide) r.2⟩)
      (Cert.Reference7Ideal.Value.run (F := Ideal) m g),
    fun m g _ => Cert.Kernel8.Gen.frame m g,
    fun m g _ => Cert.Kernel8Ideal.Gen.frame m g,
    fun m g _ => (θ_run _ _ _).mono (fun r h => ⟨fun c => (h c).2, sem_eq_zero_of_no_sems (by decide) r.2⟩)
      (Cert.Reference8Ideal.Value.run (F := Ideal) m g),
    fun m g _ => Cert.Kernel9.Gen.frame m g,
    fun m g _ => Cert.Kernel9Ideal.Gen.frame m g,
    fun m g _ => (θ_run _ _ _).mono (fun r h => ⟨fun c => (h c).2, sem_eq_zero_of_no_sems (by decide) r.2⟩)
      (Cert.Reference9Ideal.Value.run (F := Ideal) m g),
    fun m g _ => Cert.Kernel10.Gen.frame m g,
    fun m g _ => Cert.Kernel10Ideal.Gen.frame m g,
    fun m g _ => (θ_run _ _ _).mono (fun r h => ⟨fun c => (h c).2, sem_eq_zero_of_no_sems (by decide) r.2⟩)
      (Cert.Reference10Ideal.Value.run (F := Ideal) m g),
    IdealRules.named_const.statement Cert.KernelIdeal.κ "mask" .f32 0xF149F2CA#32 ⊥ rfl,
    algebraic,
    trivial, Cert.Kernel2Ideal.Product.algebraic,
    trivial, Cert.Kernel3Ideal.Product.algebraic,
    trivial, Cert.Kernel4Ideal.Product.algebraic,
    trivial, Cert.Kernel5Ideal.Product.algebraic,
    trivial, Cert.Kernel6Ideal.Product.algebraic,
    trivial, Cert.Kernel7Ideal.Product.algebraic,
    trivial, Cert.Kernel8Ideal.Product.algebraic,
    trivial, Cert.Kernel9Ideal.Product.algebraic,
    trivial, Cert.Kernel10Ideal.Product.algebraic⟩

end Cert.Proof

end
